-- ==== Defs.lean ====
def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_InGp (m : (ℓ : Loc Cert.InGp.nD Cert.InGp.τ Cert.InGp.sig) → Buf (Elt Bits) ℓ) : Prop :=
  True

def Pre_InGpIdeal (m : (ℓ : Loc Cert.InGpIdeal.nD Cert.InGpIdeal.τ Cert.InGpIdeal.sig) → Buf (Elt Ideal) ℓ) : Prop :=
  True

def Pre_InGpRefIdeal (m : (ℓ : Loc Cert.InGpRefIdeal.nD Cert.InGpRefIdeal.τ Cert.InGpRefIdeal.sig) → Buf (Elt Ideal) ℓ) : Prop :=
  True

def Pre_InHeads (m : (ℓ : Loc Cert.InHeads.nD Cert.InHeads.τ Cert.InHeads.sig) → Buf (Elt Bits) ℓ) : Prop :=
  True

def Pre_InHeadsIdeal (m : (ℓ : Loc Cert.InHeadsIdeal.nD Cert.InHeadsIdeal.τ Cert.InHeadsIdeal.sig) → Buf (Elt Ideal) ℓ) : Prop :=
  True

def Pre_InHeadsRefIdeal (m : (ℓ : Loc Cert.InHeadsRefIdeal.nD Cert.InHeadsRefIdeal.τ Cert.InHeadsRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5)
      ∧ r.2.mem ((c.tc : Thread Cert.GateBwd.nD Cert.GateBwd.τ).loc Cert.GateBwd.main_arg6) = m ((c.tc : Thread Cert.GateBwd.nD Cert.GateBwd.τ).loc Cert.GateBwd.main_arg6)
      ∧ r.2.mem ((c.tc : Thread Cert.GateBwd.nD Cert.GateBwd.τ).loc Cert.GateBwd.main_arg7) = m ((c.tc : Thread Cert.GateBwd.nD Cert.GateBwd.τ).loc Cert.GateBwd.main_arg7))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5)
      ∧ r.2.mem ((c.tc : Thread Cert.GateBwdIdeal.nD Cert.GateBwdIdeal.τ).loc Cert.GateBwdIdeal.main_arg6) = m ((c.tc : Thread Cert.GateBwdIdeal.nD Cert.GateBwdIdeal.τ).loc Cert.GateBwdIdeal.main_arg6)
      ∧ r.2.mem ((c.tc : Thread Cert.GateBwdIdeal.nD Cert.GateBwdIdeal.τ).loc Cert.GateBwdIdeal.main_arg7) = m ((c.tc : Thread Cert.GateBwdIdeal.nD Cert.GateBwdIdeal.τ).loc Cert.GateBwdIdeal.main_arg7))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5)
      ∧ r.2.mem ((c.tc : Thread Cert.GateBwdRefIdeal.nD Cert.GateBwdRefIdeal.τ).loc Cert.GateBwdRefIdeal.main_arg6) = m ((c.tc : Thread Cert.GateBwdRefIdeal.nD Cert.GateBwdRefIdeal.τ).loc Cert.GateBwdRefIdeal.main_arg6)
      ∧ r.2.mem ((c.tc : Thread Cert.GateBwdRefIdeal.nD Cert.GateBwdRefIdeal.τ).loc Cert.GateBwdRefIdeal.main_arg7) = m ((c.tc : Thread Cert.GateBwdRefIdeal.nD Cert.GateBwdRefIdeal.τ).loc Cert.GateBwdRefIdeal.main_arg7))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_InGp [hInGp : Cert.InGp.Facts] : Prop :=
  ∀ (m : (ℓ : Loc Cert.InGp.nD Cert.InGp.τ Cert.InGp.sig) → Buf (Elt Bits) ℓ) (g : Dev Cert.InGp.nD → PrngReg), Pre_InGp m →
    θ_run (Cert.InGp.defs (F := Bits)) (onTc (τ := Cert.InGp.τ) (Cert.InGp.main (F := Bits))) ⟨m, fun _ => 0, g⟩ (fun r => (∀ c : Dev Cert.InGp.nD,
      r.2.mem ((c.tc : Thread Cert.InGp.nD Cert.InGp.τ).loc Cert.InGp.main_arg0) = m ((c.tc : Thread Cert.InGp.nD Cert.InGp.τ).loc Cert.InGp.main_arg0)
      ∧ r.2.mem ((c.tc : Thread Cert.InGp.nD Cert.InGp.τ).loc Cert.InGp.main_arg1) = m ((c.tc : Thread Cert.InGp.nD Cert.InGp.τ).loc Cert.InGp.main_arg1))
      ∧ r.2.sem = fun _ => 0)

def quiescent_InGpIdeal [hInGpIdeal : Cert.InGpIdeal.Facts] : Prop :=
  ∀ (m : (ℓ : Loc Cert.InGpIdeal.nD Cert.InGpIdeal.τ Cert.InGpIdeal.sig) → Buf (Elt Ideal) ℓ) (g : Dev Cert.InGpIdeal.nD → PrngReg), Pre_InGpIdeal m →
    θ_run (Cert.InGpIdeal.defs (F := Ideal)) (onTc (τ := Cert.InGpIdeal.τ) (Cert.InGpIdeal.main (F := Ideal))) ⟨m, fun _ => 0, g⟩ (fun r => (∀ c : Dev Cert.InGpIdeal.nD,
      r.2.mem ((c.tc : Thread Cert.InGpIdeal.nD Cert.InGpIdeal.τ).loc Cert.InGpIdeal.main_arg0) = m ((c.tc : Thread Cert.InGpIdeal.nD Cert.InGpIdeal.τ).loc Cert.InGpIdeal.main_arg0)
      ∧ r.2.mem ((c.tc : Thread Cert.InGpIdeal.nD Cert.InGpIdeal.τ).loc Cert.InGpIdeal.main_arg1) = m ((c.tc : Thread Cert.InGpIdeal.nD Cert.InGpIdeal.τ).loc Cert.InGpIdeal.main_arg1))
      ∧ r.2.sem = fun _ => 0)

def quiescent_InGpRefIdeal [hInGpRefIdeal : Cert.InGpRefIdeal.Facts] : Prop :=
  ∀ (m : (ℓ : Loc Cert.InGpRefIdeal.nD Cert.InGpRefIdeal.τ Cert.InGpRefIdeal.sig) → Buf (Elt Ideal) ℓ) (g : Dev Cert.InGpRefIdeal.nD → PrngReg), Pre_InGpRefIdeal m →
    θ_run (Cert.InGpRefIdeal.defs (F := Ideal)) (onTc (τ := Cert.InGpRefIdeal.τ) (Cert.InGpRefIdeal.main (F := Ideal))) ⟨m, fun _ => 0, g⟩ (fun r => (∀ c : Dev Cert.InGpRefIdeal.nD,
      r.2.mem ((c.tc : Thread Cert.InGpRefIdeal.nD Cert.InGpRefIdeal.τ).loc Cert.InGpRefIdeal.main_arg0) = m ((c.tc : Thread Cert.InGpRefIdeal.nD Cert.InGpRefIdeal.τ).loc Cert.InGpRefIdeal.main_arg0)
      ∧ r.2.mem ((c.tc : Thread Cert.InGpRefIdeal.nD Cert.InGpRefIdeal.τ).loc Cert.InGpRefIdeal.main_arg1) = m ((c.tc : Thread Cert.InGpRefIdeal.nD Cert.InGpRefIdeal.τ).loc Cert.InGpRefIdeal.main_arg1))
      ∧ r.2.sem = fun _ => 0)

def quiescent_InHeads [hInHeads : Cert.InHeads.Facts] : Prop :=
  ∀ (m : (ℓ : Loc Cert.InHeads.nD Cert.InHeads.τ Cert.InHeads.sig) → Buf (Elt Bits) ℓ) (g : Dev Cert.InHeads.nD → PrngReg), Pre_InHeads m →
    θ_run (Cert.InHeads.defs (F := Bits)) (onTc (τ := Cert.InHeads.τ) (Cert.InHeads.main (F := Bits))) ⟨m, fun _ => 0, g⟩ (fun r => (∀ c : Dev Cert.InHeads.nD,
      r.2.mem ((c.tc : Thread Cert.InHeads.nD Cert.InHeads.τ).loc Cert.InHeads.main_arg0) = m ((c.tc : Thread Cert.InHeads.nD Cert.InHeads.τ).loc Cert.InHeads.main_arg0)
      ∧ r.2.mem ((c.tc : Thread Cert.InHeads.nD Cert.InHeads.τ).loc Cert.InHeads.main_arg1) = m ((c.tc : Thread Cert.InHeads.nD Cert.InHeads.τ).loc Cert.InHeads.main_arg1))
      ∧ r.2.sem = fun _ => 0)

def quiescent_InHeadsIdeal [hInHeadsIdeal : Cert.InHeadsIdeal.Facts] : Prop :=
  ∀ (m : (ℓ : Loc Cert.InHeadsIdeal.nD Cert.InHeadsIdeal.τ Cert.InHeadsIdeal.sig) → Buf (Elt Ideal) ℓ) (g : Dev Cert.InHeadsIdeal.nD → PrngReg), Pre_InHeadsIdeal m →
    θ_run (Cert.InHeadsIdeal.defs (F := Ideal)) (onTc (τ := Cert.InHeadsIdeal.τ) (Cert.InHeadsIdeal.main (F := Ideal))) ⟨m, fun _ => 0, g⟩ (fun r => (∀ c : Dev Cert.InHeadsIdeal.nD,
      r.2.mem ((c.tc : Thread Cert.InHeadsIdeal.nD Cert.InHeadsIdeal.τ).loc Cert.InHeadsIdeal.main_arg0) = m ((c.tc : Thread Cert.InHeadsIdeal.nD Cert.InHeadsIdeal.τ).loc Cert.InHeadsIdeal.main_arg0)
      ∧ r.2.mem ((c.tc : Thread Cert.InHeadsIdeal.nD Cert.InHeadsIdeal.τ).loc Cert.InHeadsIdeal.main_arg1) = m ((c.tc : Thread Cert.InHeadsIdeal.nD Cert.InHeadsIdeal.τ).loc Cert.InHeadsIdeal.main_arg1))
      ∧ r.2.sem = fun _ => 0)

def quiescent_InHeadsRefIdeal [hInHeadsRefIdeal : Cert.InHeadsRefIdeal.Facts] : Prop :=
  ∀ (m : (ℓ : Loc Cert.InHeadsRefIdeal.nD Cert.InHeadsRefIdeal.τ Cert.InHeadsRefIdeal.sig) → Buf (Elt Ideal) ℓ) (g : Dev Cert.InHeadsRefIdeal.nD → PrngReg), Pre_InHeadsRefIdeal m →
    θ_run (Cert.InHeadsRefIdeal.defs (F := Ideal)) (onTc (τ := Cert.InHeadsRefIdeal.τ) (Cert.InHeadsRefIdeal.main (F := Ideal))) ⟨m, fun _ => 0, g⟩ (fun r => (∀ c : Dev Cert.InHeadsRefIdeal.nD,
      r.2.mem ((c.tc : Thread Cert.InHeadsRefIdeal.nD Cert.InHeadsRefIdeal.τ).loc Cert.InHeadsRefIdeal.main_arg0) = m ((c.tc : Thread Cert.InHeadsRefIdeal.nD Cert.InHeadsRefIdeal.τ).loc Cert.InHeadsRefIdeal.main_arg0)
      ∧ r.2.mem ((c.tc : Thread Cert.InHeadsRefIdeal.nD Cert.InHeadsRefIdeal.τ).loc Cert.InHeadsRefIdeal.main_arg1) = m ((c.tc : Thread Cert.InHeadsRefIdeal.nD Cert.InHeadsRefIdeal.τ).loc Cert.InHeadsRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6)
      ∧ r.2.mem ((c.tc : Thread Cert.OutFwd.nD Cert.OutFwd.τ).loc Cert.OutFwd.main_arg7) = m ((c.tc : Thread Cert.OutFwd.nD Cert.OutFwd.τ).loc Cert.OutFwd.main_arg7))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
      ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5)
      ∧ r.2.mem ((c.tc : Thread Cert.OutFwdRefIdeal.nD Cert.OutFwdRefIdeal.τ).loc Cert.OutFwdRefIdeal.main_arg6) = m ((c.tc : Thread Cert.OutFwdRefIdeal.nD Cert.OutFwdRefIdeal.τ).loc Cert.OutFwdRefIdeal.main_arg6)
      ∧ r.2.mem ((c.tc : Thread Cert.OutFwdRefIdeal.nD Cert.OutFwdRefIdeal.τ).loc Cert.OutFwdRefIdeal.main_arg7) = m ((c.tc : Thread Cert.OutFwdRefIdeal.nD Cert.OutFwdRefIdeal.τ).loc Cert.OutFwdRefIdeal.main_arg7))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)) →
    ∃ (v0 : (c : Dev Cert.InDxIdeal.nD) → Buf (Elt Ideal) ((c.tc : Thread Cert.InDxIdeal.nD Cert.InDxIdeal.τ).loc Cert.InDxIdeal.main_v1_0)) (v1 : (c : Dev Cert.InDxIdeal.nD) → Buf (Elt Ideal) ((c.tc : Thread Cert.InDxIdeal.nD Cert.InDxIdeal.τ).loc Cert.InDxIdeal.main_v1_1)) (v2 : (c : Dev Cert.InDxIdeal.nD) → Buf (Elt Ideal) ((c.tc : Thread Cert.InDxIdeal.nD Cert.InDxIdeal.τ).loc Cert.InDxIdeal.main_v1_2)) (v3 : (c : Dev Cert.InDxIdeal.nD) → Buf (Elt Ideal) ((c.tc : Thread Cert.InDxIdeal.nD Cert.InDxIdeal.τ).loc Cert.InDxIdeal.main_v1_3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1_0) = v0 c
          ∧ r.2.mem ((c.tc : Thread Cert.InDxIdeal.nD Cert.InDxIdeal.τ).loc Cert.InDxIdeal.main_v1_1) = v1 c
          ∧ r.2.mem ((c.tc : Thread Cert.InDxIdeal.nD Cert.InDxIdeal.τ).loc Cert.InDxIdeal.main_v1_2) = v2 c
          ∧ r.2.mem ((c.tc : Thread Cert.InDxIdeal.nD Cert.InDxIdeal.τ).loc Cert.InDxIdeal.main_v1_3) = v3 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v51) = v0 c
          ∧ r.2.mem ((c.tc : Thread Cert.InDxRefIdeal.nD Cert.InDxRefIdeal.τ).loc Cert.InDxRefIdeal.main_v26) = v1 c
          ∧ r.2.mem ((c.tc : Thread Cert.InDxRefIdeal.nD Cert.InDxRefIdeal.τ).loc Cert.InDxRefIdeal.main_v29) = v2 c
          ∧ r.2.mem ((c.tc : Thread Cert.InDxRefIdeal.nD Cert.InDxRefIdeal.τ).loc Cert.InDxRefIdeal.main_v34) = v3 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)
      ∧ m' ((c.tc : Thread Cert.GateBwdRefIdeal.nD Cert.GateBwdRefIdeal.τ).loc Cert.GateBwdRefIdeal.main_arg5) = m ((c.tc : Thread Cert.GateBwdIdeal.nD Cert.GateBwdIdeal.τ).loc Cert.GateBwdIdeal.main_arg5)
      ∧ m' ((c.tc : Thread Cert.GateBwdRefIdeal.nD Cert.GateBwdRefIdeal.τ).loc Cert.GateBwdRefIdeal.main_arg6) = m ((c.tc : Thread Cert.GateBwdIdeal.nD Cert.GateBwdIdeal.τ).loc Cert.GateBwdIdeal.main_arg6)
      ∧ m' ((c.tc : Thread Cert.GateBwdRefIdeal.nD Cert.GateBwdRefIdeal.τ).loc Cert.GateBwdRefIdeal.main_arg7) = m ((c.tc : Thread Cert.GateBwdIdeal.nD Cert.GateBwdIdeal.τ).loc Cert.GateBwdIdeal.main_arg7)) →
    ∃ (v0 : (c : Dev Cert.GateBwdIdeal.nD) → Buf (Elt Ideal) ((c.tc : Thread Cert.GateBwdIdeal.nD Cert.GateBwdIdeal.τ).loc Cert.GateBwdIdeal.main_v1_0)) (v1 : (c : Dev Cert.GateBwdIdeal.nD) → Buf (Elt Ideal) ((c.tc : Thread Cert.GateBwdIdeal.nD Cert.GateBwdIdeal.τ).loc Cert.GateBwdIdeal.main_v1_1)) (v2 : (c : Dev Cert.GateBwdIdeal.nD) → Buf (Elt Ideal) ((c.tc : Thread Cert.GateBwdIdeal.nD Cert.GateBwdIdeal.τ).loc Cert.GateBwdIdeal.main_v1_2)) (v3 : (c : Dev Cert.GateBwdIdeal.nD) → Buf (Elt Ideal) ((c.tc : Thread Cert.GateBwdIdeal.nD Cert.GateBwdIdeal.τ).loc Cert.GateBwdIdeal.main_v2)) (v4 : (c : Dev Cert.GateBwdIdeal.nD) → Buf (Elt Ideal) ((c.tc : Thread Cert.GateBwdIdeal.nD Cert.GateBwdIdeal.τ).loc Cert.GateBwdIdeal.main_v1_4)) (v5 : (c : Dev Cert.GateBwdIdeal.nD) → Buf (Elt Ideal) ((c.tc : Thread Cert.GateBwdIdeal.nD Cert.GateBwdIdeal.τ).loc Cert.GateBwdIdeal.main_v1_5)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v1_0) = v0 c
          ∧ r.2.mem ((c.tc : Thread Cert.GateBwdIdeal.nD Cert.GateBwdIdeal.τ).loc Cert.GateBwdIdeal.main_v1_1) = v1 c
          ∧ r.2.mem ((c.tc : Thread Cert.GateBwdIdeal.nD Cert.GateBwdIdeal.τ).loc Cert.GateBwdIdeal.main_v1_2) = v2 c
          ∧ r.2.mem ((c.tc : Thread Cert.GateBwdIdeal.nD Cert.GateBwdIdeal.τ).loc Cert.GateBwdIdeal.main_v2) = v3 c
          ∧ r.2.mem ((c.tc : Thread Cert.GateBwdIdeal.nD Cert.GateBwdIdeal.τ).loc Cert.GateBwdIdeal.main_v1_4) = v4 c
          ∧ r.2.mem ((c.tc : Thread Cert.GateBwdIdeal.nD Cert.GateBwdIdeal.τ).loc Cert.GateBwdIdeal.main_v1_5) = v5 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5)
          ∧ r.2.mem ((c.tc : Thread Cert.GateBwdIdeal.nD Cert.GateBwdIdeal.τ).loc Cert.GateBwdIdeal.main_arg6) = m ((c.tc : Thread Cert.GateBwdIdeal.nD Cert.GateBwdIdeal.τ).loc Cert.GateBwdIdeal.main_arg6)
          ∧ r.2.mem ((c.tc : Thread Cert.GateBwdIdeal.nD Cert.GateBwdIdeal.τ).loc Cert.GateBwdIdeal.main_arg7) = m ((c.tc : Thread Cert.GateBwdIdeal.nD Cert.GateBwdIdeal.τ).loc Cert.GateBwdIdeal.main_arg7))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v76) = v0 c
          ∧ r.2.mem ((c.tc : Thread Cert.GateBwdRefIdeal.nD Cert.GateBwdRefIdeal.τ).loc Cert.GateBwdRefIdeal.main_v77) = v1 c
          ∧ r.2.mem ((c.tc : Thread Cert.GateBwdRefIdeal.nD Cert.GateBwdRefIdeal.τ).loc Cert.GateBwdRefIdeal.main_v78) = v2 c
          ∧ r.2.mem ((c.tc : Thread Cert.GateBwdRefIdeal.nD Cert.GateBwdRefIdeal.τ).loc Cert.GateBwdRefIdeal.main_v80) = v3 c
          ∧ r.2.mem ((c.tc : Thread Cert.GateBwdRefIdeal.nD Cert.GateBwdRefIdeal.τ).loc Cert.GateBwdRefIdeal.main_v21) = v4 c
          ∧ r.2.mem ((c.tc : Thread Cert.GateBwdRefIdeal.nD Cert.GateBwdRefIdeal.τ).loc Cert.GateBwdRefIdeal.main_v24) = v5 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4)
          ∧ r.2.mem ((c.tc : Thread Cert.GateBwdRefIdeal.nD Cert.GateBwdRefIdeal.τ).loc Cert.GateBwdRefIdeal.main_arg5) = m' ((c.tc : Thread Cert.GateBwdRefIdeal.nD Cert.GateBwdRefIdeal.τ).loc Cert.GateBwdRefIdeal.main_arg5)
          ∧ r.2.mem ((c.tc : Thread Cert.GateBwdRefIdeal.nD Cert.GateBwdRefIdeal.τ).loc Cert.GateBwdRefIdeal.main_arg6) = m' ((c.tc : Thread Cert.GateBwdRefIdeal.nD Cert.GateBwdRefIdeal.τ).loc Cert.GateBwdRefIdeal.main_arg6)
          ∧ r.2.mem ((c.tc : Thread Cert.GateBwdRefIdeal.nD Cert.GateBwdRefIdeal.τ).loc Cert.GateBwdRefIdeal.main_arg7) = m' ((c.tc : Thread Cert.GateBwdRefIdeal.nD Cert.GateBwdRefIdeal.τ).loc Cert.GateBwdRefIdeal.main_arg7))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v1)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v1) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v3) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_InGp_InGpIdeal : Prop :=
  True

def algebraic_InGpIdeal_InGpRefIdeal [hInGpIdeal : Cert.InGpIdeal.Facts] [hInGpRefIdeal : Cert.InGpRefIdeal.Facts] : Prop :=
  ∀ (m : (ℓ : Loc Cert.InGpIdeal.nD Cert.InGpIdeal.τ Cert.InGpIdeal.sig) → Buf (Elt Ideal) ℓ) (g : Dev Cert.InGpIdeal.nD → PrngReg)
    (m' : (ℓ : Loc Cert.InGpRefIdeal.nD Cert.InGpRefIdeal.τ Cert.InGpRefIdeal.sig) → Buf (Elt Ideal) ℓ) (g' : Dev Cert.InGpRefIdeal.nD → PrngReg), Pre_InGpIdeal m →
    (∀ c : Dev Cert.InGpIdeal.nD,
      m' ((c.tc : Thread Cert.InGpRefIdeal.nD Cert.InGpRefIdeal.τ).loc Cert.InGpRefIdeal.main_arg0) = m ((c.tc : Thread Cert.InGpIdeal.nD Cert.InGpIdeal.τ).loc Cert.InGpIdeal.main_arg0)
      ∧ m' ((c.tc : Thread Cert.InGpRefIdeal.nD Cert.InGpRefIdeal.τ).loc Cert.InGpRefIdeal.main_arg1) = m ((c.tc : Thread Cert.InGpIdeal.nD Cert.InGpIdeal.τ).loc Cert.InGpIdeal.main_arg1)) →
    ∃ (v0 : (c : Dev Cert.InGpIdeal.nD) → Buf (Elt Ideal) ((c.tc : Thread Cert.InGpIdeal.nD Cert.InGpIdeal.τ).loc Cert.InGpIdeal.main_v1)),
      θ_run (Cert.InGpIdeal.defs (F := Ideal)) (onTc (τ := Cert.InGpIdeal.τ) (Cert.InGpIdeal.main (F := Ideal))) ⟨m, fun _ => 0, g⟩ (fun r => ∀ c : Dev Cert.InGpIdeal.nD,
          r.2.mem ((c.tc : Thread Cert.InGpIdeal.nD Cert.InGpIdeal.τ).loc Cert.InGpIdeal.main_v1) = v0 c
          ∧ r.2.mem ((c.tc : Thread Cert.InGpIdeal.nD Cert.InGpIdeal.τ).loc Cert.InGpIdeal.main_arg0) = m ((c.tc : Thread Cert.InGpIdeal.nD Cert.InGpIdeal.τ).loc Cert.InGpIdeal.main_arg0)
          ∧ r.2.mem ((c.tc : Thread Cert.InGpIdeal.nD Cert.InGpIdeal.τ).loc Cert.InGpIdeal.main_arg1) = m ((c.tc : Thread Cert.InGpIdeal.nD Cert.InGpIdeal.τ).loc Cert.InGpIdeal.main_arg1))
      ∧ θ_run (Cert.InGpRefIdeal.defs (F := Ideal)) (onTc (τ := Cert.InGpRefIdeal.τ) (Cert.InGpRefIdeal.main (F := Ideal))) ⟨m', fun _ => 0, g'⟩ (fun r => ∀ c : Dev Cert.InGpRefIdeal.nD,
          r.2.mem ((c.tc : Thread Cert.InGpRefIdeal.nD Cert.InGpRefIdeal.τ).loc Cert.InGpRefIdeal.main_v3) = v0 c
          ∧ r.2.mem ((c.tc : Thread Cert.InGpRefIdeal.nD Cert.InGpRefIdeal.τ).loc Cert.InGpRefIdeal.main_arg0) = m' ((c.tc : Thread Cert.InGpRefIdeal.nD Cert.InGpRefIdeal.τ).loc Cert.InGpRefIdeal.main_arg0)
          ∧ r.2.mem ((c.tc : Thread Cert.InGpRefIdeal.nD Cert.InGpRefIdeal.τ).loc Cert.InGpRefIdeal.main_arg1) = m' ((c.tc : Thread Cert.InGpRefIdeal.nD Cert.InGpRefIdeal.τ).loc Cert.InGpRefIdeal.main_arg1))

def preserves_InHeads_InHeadsIdeal : Prop :=
  True

def algebraic_InHeadsIdeal_InHeadsRefIdeal [hInHeadsIdeal : Cert.InHeadsIdeal.Facts] [hInHeadsRefIdeal : Cert.InHeadsRefIdeal.Facts] : Prop :=
  ∀ (m : (ℓ : Loc Cert.InHeadsIdeal.nD Cert.InHeadsIdeal.τ Cert.InHeadsIdeal.sig) → Buf (Elt Ideal) ℓ) (g : Dev Cert.InHeadsIdeal.nD → PrngReg)
    (m' : (ℓ : Loc Cert.InHeadsRefIdeal.nD Cert.InHeadsRefIdeal.τ Cert.InHeadsRefIdeal.sig) → Buf (Elt Ideal) ℓ) (g' : Dev Cert.InHeadsRefIdeal.nD → PrngReg), Pre_InHeadsIdeal m →
    (∀ c : Dev Cert.InHeadsIdeal.nD,
      m' ((c.tc : Thread Cert.InHeadsRefIdeal.nD Cert.InHeadsRefIdeal.τ).loc Cert.InHeadsRefIdeal.main_arg0) = m ((c.tc : Thread Cert.InHeadsIdeal.nD Cert.InHeadsIdeal.τ).loc Cert.InHeadsIdeal.main_arg0)
      ∧ m' ((c.tc : Thread Cert.InHeadsRefIdeal.nD Cert.InHeadsRefIdeal.τ).loc Cert.InHeadsRefIdeal.main_arg1) = m ((c.tc : Thread Cert.InHeadsIdeal.nD Cert.InHeadsIdeal.τ).loc Cert.InHeadsIdeal.main_arg1)) →
    ∃ (v0 : (c : Dev Cert.InHeadsIdeal.nD) → Buf (Elt Ideal) ((c.tc : Thread Cert.InHeadsIdeal.nD Cert.InHeadsIdeal.τ).loc Cert.InHeadsIdeal.main_v1)),
      θ_run (Cert.InHeadsIdeal.defs (F := Ideal)) (onTc (τ := Cert.InHeadsIdeal.τ) (Cert.InHeadsIdeal.main (F := Ideal))) ⟨m, fun _ => 0, g⟩ (fun r => ∀ c : Dev Cert.InHeadsIdeal.nD,
          r.2.mem ((c.tc : Thread Cert.InHeadsIdeal.nD Cert.InHeadsIdeal.τ).loc Cert.InHeadsIdeal.main_v1) = v0 c
          ∧ r.2.mem ((c.tc : Thread Cert.InHeadsIdeal.nD Cert.InHeadsIdeal.τ).loc Cert.InHeadsIdeal.main_arg0) = m ((c.tc : Thread Cert.InHeadsIdeal.nD Cert.InHeadsIdeal.τ).loc Cert.InHeadsIdeal.main_arg0)
          ∧ r.2.mem ((c.tc : Thread Cert.InHeadsIdeal.nD Cert.InHeadsIdeal.τ).loc Cert.InHeadsIdeal.main_arg1) = m ((c.tc : Thread Cert.InHeadsIdeal.nD Cert.InHeadsIdeal.τ).loc Cert.InHeadsIdeal.main_arg1))
      ∧ θ_run (Cert.InHeadsRefIdeal.defs (F := Ideal)) (onTc (τ := Cert.InHeadsRefIdeal.τ) (Cert.InHeadsRefIdeal.main (F := Ideal))) ⟨m', fun _ => 0, g'⟩ (fun r => ∀ c : Dev Cert.InHeadsRefIdeal.nD,
          r.2.mem ((c.tc : Thread Cert.InHeadsRefIdeal.nD Cert.InHeadsRefIdeal.τ).loc Cert.InHeadsRefIdeal.main_v2) = v0 c
          ∧ r.2.mem ((c.tc : Thread Cert.InHeadsRefIdeal.nD Cert.InHeadsRefIdeal.τ).loc Cert.InHeadsRefIdeal.main_arg0) = m' ((c.tc : Thread Cert.InHeadsRefIdeal.nD Cert.InHeadsRefIdeal.τ).loc Cert.InHeadsRefIdeal.main_arg0)
          ∧ r.2.mem ((c.tc : Thread Cert.InHeadsRefIdeal.nD Cert.InHeadsRefIdeal.τ).loc Cert.InHeadsRefIdeal.main_arg1) = m' ((c.tc : Thread Cert.InHeadsRefIdeal.nD Cert.InHeadsRefIdeal.τ).loc Cert.InHeadsRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v2_0)) (v1 : (c : Dev Cert.GateFwdIdeal.nD) → Buf (Elt Ideal) ((c.tc : Thread Cert.GateFwdIdeal.nD Cert.GateFwdIdeal.τ).loc Cert.GateFwdIdeal.main_v2_1)) (v2 : (c : Dev Cert.GateFwdIdeal.nD) → Buf (Elt Ideal) ((c.tc : Thread Cert.GateFwdIdeal.nD Cert.GateFwdIdeal.τ).loc Cert.GateFwdIdeal.main_v2_2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v2_0) = v0 c
          ∧ r.2.mem ((c.tc : Thread Cert.GateFwdIdeal.nD Cert.GateFwdIdeal.τ).loc Cert.GateFwdIdeal.main_v2_1) = v1 c
          ∧ r.2.mem ((c.tc : Thread Cert.GateFwdIdeal.nD Cert.GateFwdIdeal.τ).loc Cert.GateFwdIdeal.main_v2_2) = v2 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v23) = v0 c
          ∧ r.2.mem ((c.tc : Thread Cert.GateFwdRefIdeal.nD Cert.GateFwdRefIdeal.τ).loc Cert.GateFwdRefIdeal.main_v24) = v1 c
          ∧ r.2.mem ((c.tc : Thread Cert.GateFwdRefIdeal.nD Cert.GateFwdRefIdeal.τ).loc Cert.GateFwdRefIdeal.main_v25) = v2 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)
      ∧ m' ((c.tc : Thread Cert.OutFwdRefIdeal.nD Cert.OutFwdRefIdeal.τ).loc Cert.OutFwdRefIdeal.main_arg6) = m ((c.tc : Thread Cert.OutFwdIdeal.nD Cert.OutFwdIdeal.τ).loc Cert.OutFwdIdeal.main_arg6)
      ∧ m' ((c.tc : Thread Cert.OutFwdRefIdeal.nD Cert.OutFwdRefIdeal.τ).loc Cert.OutFwdRefIdeal.main_arg7) = m ((c.tc : Thread Cert.OutFwdIdeal.nD Cert.OutFwdIdeal.τ).loc Cert.OutFwdIdeal.main_arg7)) →
    ∃ (v0 : (c : Dev Cert.OutFwdIdeal.nD) → Buf (Elt Ideal) ((c.tc : Thread Cert.OutFwdIdeal.nD Cert.OutFwdIdeal.τ).loc Cert.OutFwdIdeal.main_v1_0)) (v1 : (c : Dev Cert.OutFwdIdeal.nD) → Buf (Elt Ideal) ((c.tc : Thread Cert.OutFwdIdeal.nD Cert.OutFwdIdeal.τ).loc Cert.OutFwdIdeal.main_v1_1)) (v2 : (c : Dev Cert.OutFwdIdeal.nD) → Buf (Elt Ideal) ((c.tc : Thread Cert.OutFwdIdeal.nD Cert.OutFwdIdeal.τ).loc Cert.OutFwdIdeal.main_v1_2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1_0) = v0 c
          ∧ r.2.mem ((c.tc : Thread Cert.OutFwdIdeal.nD Cert.OutFwdIdeal.τ).loc Cert.OutFwdIdeal.main_v1_1) = v1 c
          ∧ r.2.mem ((c.tc : Thread Cert.OutFwdIdeal.nD Cert.OutFwdIdeal.τ).loc Cert.OutFwdIdeal.main_v1_2) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
          ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_v16) = v1 c
          ∧ r.2.mem ((c.tc : Thread Cert.OutFwdRefIdeal.nD Cert.OutFwdRefIdeal.τ).loc Cert.OutFwdRefIdeal.main_v35) = v2 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5)
          ∧ r.2.mem ((c.tc : Thread Cert.OutFwdRefIdeal.nD Cert.OutFwdRefIdeal.τ).loc Cert.OutFwdRefIdeal.main_arg6) = m' ((c.tc : Thread Cert.OutFwdRefIdeal.nD Cert.OutFwdRefIdeal.τ).loc Cert.OutFwdRefIdeal.main_arg6)
          ∧ r.2.mem ((c.tc : Thread Cert.OutFwdRefIdeal.nD Cert.OutFwdRefIdeal.τ).loc Cert.OutFwdRefIdeal.main_arg7) = m' ((c.tc : Thread Cert.OutFwdRefIdeal.nD Cert.OutFwdRefIdeal.τ).loc Cert.OutFwdRefIdeal.main_arg7))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v1_0)) (v1 : (c : Dev Cert.AdamVecIdeal.nD) → Buf (Elt Ideal) ((c.tc : Thread Cert.AdamVecIdeal.nD Cert.AdamVecIdeal.τ).loc Cert.AdamVecIdeal.main_v1_1)) (v2 : (c : Dev Cert.AdamVecIdeal.nD) → Buf (Elt Ideal) ((c.tc : Thread Cert.AdamVecIdeal.nD Cert.AdamVecIdeal.τ).loc Cert.AdamVecIdeal.main_v1_2)) (v3 : (c : Dev Cert.AdamVecIdeal.nD) → Buf (Elt Ideal) ((c.tc : Thread Cert.AdamVecIdeal.nD Cert.AdamVecIdeal.τ).loc Cert.AdamVecIdeal.main_v1_3)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v1_0) = v0 c
          ∧ r.2.mem ((c.tc : Thread Cert.AdamVecIdeal.nD Cert.AdamVecIdeal.τ).loc Cert.AdamVecIdeal.main_v1_1) = v1 c
          ∧ r.2.mem ((c.tc : Thread Cert.AdamVecIdeal.nD Cert.AdamVecIdeal.τ).loc Cert.AdamVecIdeal.main_v1_2) = v2 c
          ∧ r.2.mem ((c.tc : Thread Cert.AdamVecIdeal.nD Cert.AdamVecIdeal.τ).loc Cert.AdamVecIdeal.main_v1_3) = v3 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_arg3) = v0 c
          ∧ r.2.mem ((c.tc : Thread Cert.AdamVecRefIdeal.nD Cert.AdamVecRefIdeal.τ).loc Cert.AdamVecRefIdeal.main_v23) = v1 c
          ∧ r.2.mem ((c.tc : Thread Cert.AdamVecRefIdeal.nD Cert.AdamVecRefIdeal.τ).loc Cert.AdamVecRefIdeal.main_v4) = v2 c
          ∧ r.2.mem ((c.tc : Thread Cert.AdamVecRefIdeal.nD Cert.AdamVecRefIdeal.τ).loc Cert.AdamVecRefIdeal.main_v10) = v3 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v1_0)) (v1 : (c : Dev Cert.AdamGainIdeal.nD) → Buf (Elt Ideal) ((c.tc : Thread Cert.AdamGainIdeal.nD Cert.AdamGainIdeal.τ).loc Cert.AdamGainIdeal.main_v1_1)) (v2 : (c : Dev Cert.AdamGainIdeal.nD) → Buf (Elt Ideal) ((c.tc : Thread Cert.AdamGainIdeal.nD Cert.AdamGainIdeal.τ).loc Cert.AdamGainIdeal.main_v1_2)) (v3 : (c : Dev Cert.AdamGainIdeal.nD) → Buf (Elt Ideal) ((c.tc : Thread Cert.AdamGainIdeal.nD Cert.AdamGainIdeal.τ).loc Cert.AdamGainIdeal.main_v1_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v1_0) = v0 c
          ∧ r.2.mem ((c.tc : Thread Cert.AdamGainIdeal.nD Cert.AdamGainIdeal.τ).loc Cert.AdamGainIdeal.main_v1_1) = v1 c
          ∧ r.2.mem ((c.tc : Thread Cert.AdamGainIdeal.nD Cert.AdamGainIdeal.τ).loc Cert.AdamGainIdeal.main_v1_2) = v2 c
          ∧ r.2.mem ((c.tc : Thread Cert.AdamGainIdeal.nD Cert.AdamGainIdeal.τ).loc Cert.AdamGainIdeal.main_v1_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_arg3) = v0 c
          ∧ r.2.mem ((c.tc : Thread Cert.AdamGainRefIdeal.nD Cert.AdamGainRefIdeal.τ).loc Cert.AdamGainRefIdeal.main_v23) = v1 c
          ∧ r.2.mem ((c.tc : Thread Cert.AdamGainRefIdeal.nD Cert.AdamGainRefIdeal.τ).loc Cert.AdamGainRefIdeal.main_v4) = v2 c
          ∧ r.2.mem ((c.tc : Thread Cert.AdamGainRefIdeal.nD Cert.AdamGainRefIdeal.τ).loc Cert.AdamGainRefIdeal.main_v10) = v3 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def Claim : Prop :=
  ∃ (hInDx : Cert.InDx.Facts) (hInDxIdeal : Cert.InDxIdeal.Facts) (hInDxRefIdeal : Cert.InDxRefIdeal.Facts) (hGateBwd : Cert.GateBwd.Facts) (hGateBwdIdeal : Cert.GateBwdIdeal.Facts) (hGateBwdRefIdeal : Cert.GateBwdRefIdeal.Facts) (hInDw : Cert.InDw.Facts) (hInDwIdeal : Cert.InDwIdeal.Facts) (hInDwRefIdeal : Cert.InDwRefIdeal.Facts) (hOutDw : Cert.OutDw.Facts) (hOutDwIdeal : Cert.OutDwIdeal.Facts) (hOutDwRefIdeal : Cert.OutDwRefIdeal.Facts) (hProjDw : Cert.ProjDw.Facts) (hProjDwIdeal : Cert.ProjDwIdeal.Facts) (hProjDwRefIdeal : Cert.ProjDwRefIdeal.Facts) (hProjDx : Cert.ProjDx.Facts) (hProjDxIdeal : Cert.ProjDxIdeal.Facts) (hProjDxRefIdeal : Cert.ProjDxRefIdeal.Facts) (hInGp : Cert.InGp.Facts) (hInGpIdeal : Cert.InGpIdeal.Facts) (hInGpRefIdeal : Cert.InGpRefIdeal.Facts) (hInHeads : Cert.InHeads.Facts) (hInHeadsIdeal : Cert.InHeadsIdeal.Facts) (hInHeadsRefIdeal : Cert.InHeadsRefIdeal.Facts) (hGateFwd : Cert.GateFwd.Facts) (hGateFwdIdeal : Cert.GateFwdIdeal.Facts) (hGateFwdRefIdeal : Cert.GateFwdRefIdeal.Facts) (hOutFwd : Cert.OutFwd.Facts) (hOutFwdIdeal : Cert.OutFwdIdeal.Facts) (hOutFwdRefIdeal : Cert.OutFwdRefIdeal.Facts) (hAdamVec : Cert.AdamVec.Facts) (hAdamVecIdeal : Cert.AdamVecIdeal.Facts) (hAdamVecRefIdeal : Cert.AdamVecRefIdeal.Facts) (hAdamGain : Cert.AdamGain.Facts) (hAdamGainIdeal : Cert.AdamGainIdeal.Facts) (hAdamGainRefIdeal : Cert.AdamGainRefIdeal.Facts),
    quiescent_InDx (hInDx := hInDx)
    ∧ quiescent_InDxIdeal (hInDxIdeal := hInDxIdeal)
    ∧ quiescent_InDxRefIdeal (hInDxRefIdeal := hInDxRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_InGp (hInGp := hInGp)
    ∧ quiescent_InGpIdeal (hInGpIdeal := hInGpIdeal)
    ∧ quiescent_InGpRefIdeal (hInGpRefIdeal := hInGpRefIdeal)
    ∧ quiescent_InHeads (hInHeads := hInHeads)
    ∧ quiescent_InHeadsIdeal (hInHeadsIdeal := hInHeadsIdeal)
    ∧ quiescent_InHeadsRefIdeal (hInHeadsRefIdeal := hInHeadsRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ preserves_InDx_InDxIdeal
    ∧ algebraic_InDxIdeal_InDxRefIdeal (hInDxIdeal := hInDxIdeal) (hInDxRefIdeal := hInDxRefIdeal)
    ∧ preserves_GateBwd_GateBwdIdeal
    ∧ algebraic_GateBwdIdeal_GateBwdRefIdeal (hGateBwdIdeal := hGateBwdIdeal) (hGateBwdRefIdeal := hGateBwdRefIdeal)
    ∧ preserves_InDw_InDwIdeal
    ∧ algebraic_InDwIdeal_InDwRefIdeal (hInDwIdeal := hInDwIdeal) (hInDwRefIdeal := hInDwRefIdeal)
    ∧ preserves_OutDw_OutDwIdeal
    ∧ algebraic_OutDwIdeal_OutDwRefIdeal (hOutDwIdeal := hOutDwIdeal) (hOutDwRefIdeal := hOutDwRefIdeal)
    ∧ preserves_ProjDw_ProjDwIdeal
    ∧ algebraic_ProjDwIdeal_ProjDwRefIdeal (hProjDwIdeal := hProjDwIdeal) (hProjDwRefIdeal := hProjDwRefIdeal)
    ∧ preserves_ProjDx_ProjDxIdeal
    ∧ algebraic_ProjDxIdeal_ProjDxRefIdeal (hProjDxIdeal := hProjDxIdeal) (hProjDxRefIdeal := hProjDxRefIdeal)
    ∧ preserves_InGp_InGpIdeal
    ∧ algebraic_InGpIdeal_InGpRefIdeal (hInGpIdeal := hInGpIdeal) (hInGpRefIdeal := hInGpRefIdeal)
    ∧ preserves_InHeads_InHeadsIdeal
    ∧ algebraic_InHeadsIdeal_InHeadsRefIdeal (hInHeadsIdeal := hInHeadsIdeal) (hInHeadsRefIdeal := hInHeadsRefIdeal)
    ∧ preserves_GateFwd_GateFwdIdeal
    ∧ algebraic_GateFwdIdeal_GateFwdRefIdeal (hGateFwdIdeal := hGateFwdIdeal) (hGateFwdRefIdeal := hGateFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamGain_AdamGainIdeal
    ∧ algebraic_AdamGainIdeal_AdamGainRefIdeal (hAdamGainIdeal := hAdamGainIdeal) (hAdamGainRefIdeal := hAdamGainRefIdeal)
-- ==== InDx.lean ====
abbrev S8192x10240 : Shape := ⟨2, ![8192, 10240]⟩
abbrev S2048x10240 : Shape := ⟨2, ![2048, 10240]⟩
abbrev S8192x2048 : Shape := ⟨2, ![8192, 2048]⟩
abbrev S1x2048 : Shape := ⟨2, ![1, 2048]⟩
abbrev S512x2048 : Shape := ⟨2, ![512, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 16
  | .smem => 0
  | _ => 0

abbrev bufTy : (tb : Table) → Fin (tcTables nBuf tb) → BufTy
  | .hbm, ⟨0, _⟩ => ⟨S8192x10240, .bf16⟩
  | .hbm, ⟨1, _⟩ => ⟨S2048x10240, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x10240, .bf16⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![16, 5], ![false, false]⟩

def k0_cond3 (i : grid0.Coords) : BitVec 1 :=
  let arg1 : BitVec 32 := BitVec.ofNat 32 (i 1).val
  let c4_i32 : BitVec 32 := 4#32
  let v10 : BitVec 1 := Scalar.cmpi .eq arg1 c4_i32
  let v11 : BitVec 32 := Scalar.extui v10
  let c0_i32_6 : BitVec 32 := 0#32
  let v12 : BitVec 1 := Scalar.cmpi .ne v11 c0_i32_6
  v12

@[reducible] def k0_t1_loop : Scf.Loop 32 :=
  let c0_i32_14 : BitVec 32 := 0#32
  let c2_i32 : BitVec 32 := 2#32
  let v20 : BitVec 32 := Scalar.addi c0_i32_14 c2_i32
  let c1_i32 : BitVec 32 := 1#32
  ⟨c0_i32_14, v20, c1_i32⟩
def k0_mult1 (k0_t1 : Fin k0_t1_loop.trips) : BitVec 32 :=
  let c0_i32_14 : BitVec 32 := 0#32
  let c1_i32 : BitVec 32 := 1#32
  let arg13 : BitVec 32 := Scf.iv c0_i32_14 c1_i32 k0_t1
  let c256_i32 : BitVec 32 := 256#32
  let v21 : BitVec 32 := Scalar.muli arg13 c256_i32
  v21
def k0_off1 (k0_t1 : Fin k0_t1_loop.trips) : Fin 2 → Nat :=
  let c0_i32_14 : BitVec 32 := 0#32
  let c1_i32 : BitVec 32 := 1#32
  let arg13 : BitVec 32 := Scf.iv c0_i32_14 c1_i32 k0_t1
  let c256_i32 : BitVec 32 := 256#32
  let v21 : BitVec 32 := Scalar.muli arg13 c256_i32
  let v22 : BitVec 32 := v21
  let v23 : Index := Scalar.indexCast v22
  let c0_16 : Index := 0#32
  ![v23.toNat, 0]
def k0_cond4 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== InDxRefIdeal.lean ====
abbrev S8192x10240 : Shape := ⟨2, ![8192, 10240]⟩
abbrev S2048x10240 : Shape := ⟨2, ![2048, 10240]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S2048x10240, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x10240, .f32⟩
  | .hbm, ⟨35, _⟩ => ⟨S8192x10240, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== GateBwd.lean ====
abbrev S8192x2048 : Shape := ⟨2, ![8192, 2048]⟩
abbrev S1x2048 : Shape := ⟨2, ![1, 2048]⟩
abbrev S2048x2048 : Shape := ⟨2, ![2048, 2048]⟩
abbrev S8192x6144 : Shape := ⟨2, ![8192, 6144]⟩
abbrev S8192x10240 : Shape := ⟨2, ![8192, 10240]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S2048 : Shape := ⟨1, ![2048]⟩
abbrev S8192x4096 : Shape := ⟨2, ![8192, 4096]⟩

abbrev nBuf : Space → Nat
  | .hbm => 16
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S8192x6144, .bf16⟩
  | .hbm, ⟨6, _⟩ => ⟨S8192x2048, .bf16⟩
  | .hbm, ⟨7, _⟩ => ⟨S8192x2048, .bf16⟩
  | .hbm, ⟨8, _⟩ => ⟨S2048x2048, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S8192x10240, .bf16⟩
  | .hbm, ⟨13, _⟩ => ⟨S1x2048, .f32⟩
  | .hbm, ⟨14, _⟩ => ⟨S1x2048, .f32⟩
  | .hbm, ⟨15, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x4096, .bf16⟩
  | .local _ .vmem, ⟨22, _⟩ => ⟨S256x4096, .bf16⟩
  | .local _ .vmem, ⟨23, _⟩ => ⟨S1x2048, .f32⟩
  | .local _ .vmem, ⟨24, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_15 : BitVec 32 := 0#32
  let v40 : BitVec 1 := Scalar.cmpi .ne v39 c0_i32_15
  v40

def k0_cond2 (i : grid0.Coords) : BitVec 1 :=
  let arg0 : BitVec 32 := BitVec.ofNat 32 (i 0).val
  let c0_i32_16 : BitVec 32 := 0#32
  let v41 : BitVec 1 := Scalar.cmpi .sgt arg0 c0_i32_16
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GateBwdRefIdeal.lean ====
abbrev S8192x2048 : Shape := ⟨2, ![8192, 2048]⟩
abbrev S1x2048 : Shape := ⟨2, ![1, 2048]⟩
abbrev S2048x2048 : Shape := ⟨2, ![2048, 2048]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x4096 : Shape := ⟨2, ![8192, 4096]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S8192x6144, .bf16⟩
  | .hbm, ⟨6, _⟩ => ⟨S8192x2048, .bf16⟩
  | .hbm, ⟨7, _⟩ => ⟨S8192x2048, .bf16⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .bf16⟩
  | .hbm, ⟨59, _⟩ => ⟨S8192x2048, .f32⟩
  | .hbm, ⟨60, _⟩ => ⟨S8192x2048, .bf16⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192x2048, .f32⟩
  | .hbm, ⟨84, _⟩ => ⟨S8192x2048, .f32⟩
  | .hbm, ⟨85, _⟩ => ⟨S_, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .bf16⟩
  | .hbm, ⟨100, _⟩ => ⟨S8192x2048, .bf16⟩
  | .hbm, ⟨101, _⟩ => ⟨S8192x2048, .bf16⟩
  | .hbm, ⟨102, _⟩ => ⟨S8192x4096, .f32⟩
  | .hbm, ⟨103, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== InDw.lean ====
abbrev S8192x2048 : Shape := ⟨2, ![8192, 2048]⟩
abbrev S8192x10240 : Shape := ⟨2, ![8192, 10240]⟩
abbrev S2048x10240 : Shape := ⟨2, ![2048, 10240]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S2048x10240, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwRefIdeal.lean ====
abbrev S8192x2048 : Shape := ⟨2, ![8192, 2048]⟩
abbrev S8192x10240 : Shape := ⟨2, ![8192, 10240]⟩
abbrev S_ : Shape := ⟨0, ![]⟩
abbrev S2048x10240 : Shape := ⟨2, ![2048, 10240]⟩
abbrev S10240x2048 : Shape := ⟨2, ![10240, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S_, .f32⟩
  | .hbm, ⟨3, _⟩ => ⟨S2048x10240, .f32⟩
  | .hbm, ⟨4, _⟩ => ⟨S8192x2048, .f32⟩
  | .hbm, ⟨5, _⟩ => ⟨S8192x10240, .f32⟩
  | .hbm, ⟨6, _⟩ => ⟨S8192x10240, .f32⟩
  | .hbm, ⟨7, _⟩ => ⟨S10240x2048, .f32⟩
  | .hbm, ⟨8, _⟩ => ⟨S2048x10240, .f32⟩
  | .hbm, ⟨9, _⟩ => ⟨S2048x10240, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDw.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ProjDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S1024x2048, .bf16⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDxRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InGp.lean ====
abbrev S8192x2048 : Shape := ⟨2, ![8192, 2048]⟩
abbrev S2048x10240 : Shape := ⟨2, ![2048, 10240]⟩
abbrev S8192x6144 : Shape := ⟨2, ![8192, 6144]⟩
abbrev S2048x2048 : Shape := ⟨2, ![2048, 2048]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .f32⟩
  | .hbm, ⟨2, _⟩ => ⟨S2048x10240, .bf16⟩
  | .hbm, ⟨3, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGpRefIdeal.lean ====
abbrev S8192x2048 : Shape := ⟨2, ![8192, 2048]⟩
abbrev S2048x10240 : Shape := ⟨2, ![2048, 10240]⟩
abbrev S8192x10240 : Shape := ⟨2, ![8192, 10240]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .f32⟩
  | .hbm, ⟨2, _⟩ => ⟨S8192x2048, .f32⟩
  | .hbm, ⟨3, _⟩ => ⟨S8192x10240, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InHeads.lean ====
abbrev S8192x2048 : Shape := ⟨2, ![8192, 2048]⟩
abbrev S2048x10240 : Shape := ⟨2, ![2048, 10240]⟩
abbrev S8192x4096 : Shape := ⟨2, ![8192, 4096]⟩
abbrev S2048x2048 : Shape := ⟨2, ![2048, 2048]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .f32⟩
  | .hbm, ⟨2, _⟩ => ⟨S2048x10240, .bf16⟩
  | .hbm, ⟨3, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InHeadsRefIdeal.lean ====
abbrev S8192x2048 : Shape := ⟨2, ![8192, 2048]⟩
abbrev S2048x10240 : Shape := ⟨2, ![2048, 10240]⟩
abbrev S8192x10240 : Shape := ⟨2, ![8192, 10240]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .f32⟩
  | .hbm, ⟨2, _⟩ => ⟨S8192x2048, .f32⟩
  | .hbm, ⟨3, _⟩ => ⟨S8192x10240, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateFwd.lean ====
abbrev S8192x1024 : Shape := ⟨2, ![8192, 1024]⟩
abbrev S1024x2048 : Shape := ⟨2, ![1024, 2048]⟩
abbrev S8192x6144 : Shape := ⟨2, ![8192, 6144]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x6144, .bf16⟩
  | .hbm, ⟨5, _⟩ => ⟨S1024x2048, .bf16⟩
  | .hbm, ⟨6, _⟩ => ⟨S1024x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateFwdRefIdeal.lean ====
abbrev S8192x1024 : Shape := ⟨2, ![8192, 1024]⟩
abbrev S1024x2048 : Shape := ⟨2, ![1024, 2048]⟩
abbrev S8192x6144 : Shape := ⟨2, ![8192, 6144]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x6144, .bf16⟩
  | .hbm, ⟨5, _⟩ => ⟨S8192x1024, .f32⟩
  | .hbm, ⟨6, _⟩ => ⟨S8192x2048, .f32⟩
  | .hbm, ⟨7, _⟩ => ⟨S8192x1024, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | .hbm, ⟨33, _⟩ => ⟨S8192x2048, .bf16⟩
  | .hbm, ⟨34, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== OutFwd.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x2048, .bf16⟩
  | .hbm, ⟨9, _⟩ => ⟨S8192x2048, .f32⟩
  | .hbm, ⟨10, _⟩ => ⟨S8192x2048, .f32⟩
  | .hbm, ⟨11, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutFwdRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S1x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== AdamVec.lean ====
abbrev S4x2048 : Shape := ⟨2, ![4, 2048]⟩
abbrev S1x4x2048 : Shape := ⟨3, ![1, 4, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S1x4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S1x4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecIdeal.lean ====
abbrev S4x2048 : Shape := ⟨2, ![4, 2048]⟩
abbrev S1x4x2048 : Shape := ⟨3, ![1, 4, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S1x4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S1x4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecRefIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S4x1024 : Shape := ⟨2, ![4, 1024]⟩
abbrev S1x4x1024 : Shape := ⟨3, ![1, 4, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1x4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S1x4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.InDxCases.lean ====
/- The call `w_in_dx_prenorm_bwd`: the conditions of its body at each grid point, where each window is idle, and the
   names of the staging buffers. -/
module

public import proofs.«01_k».proof.Proof.Gen.InDxIdeal.Frame
public import proofs.«01_k».proof.Proof.Gen.InDxIdeal.Loops
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

abbrev cond0_1 (i : grid0.Coords) : Prop := (Scalar.cmpi .ne (Scalar.extui (Scalar.cmpi .sgt (BitVec.ofNat 32 (i 1).val) 0#32)) 0#32) = 1#1

theorem hcond0_1 : ∀ t : Fin cfg0.N, cond0_1 (grid0.coords t) ↔ 1 ≤ t.val % 5 :=
  (by decide +kernel : ∀ t : Fin grid0.N, cond0_1 (grid0.coords t) ↔ 1 ≤ t.val % 5)

abbrev cond0_2 (i : grid0.Coords) : Prop := k0_cond3 i = 1#1

theorem hcond0_2 : ∀ t : Fin cfg0.N, cond0_2 (grid0.coords t) ↔ t.val % 5 = 4 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val % 5 = 4)

abbrev cond0_3 (i : grid0.Coords) : Prop := k0_cond4 i = 1#1

theorem hcond0_3 : ∀ t : Fin cfg0.N, cond0_3 (grid0.coords t) ↔ t.val < 5 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_3, k0_cond4, e0, e1]
    word_cmp
   : ∀ t : Fin grid0.N, cond0_3 (grid0.coords t) ↔ t.val < 5)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_4 : ∀ t : Fin cfg0.N, cfg0.idle 4 (grid0.coords t) = false := fun _ => rfl

theorem liveAt0_5 : ∀ t : Fin cfg0.N, cfg0.idle 5 (grid0.coords t) = false := fun _ => rfl

abbrev conds0_C (i : grid0.Coords) : Prop := ¬cond0_0 i ∧ cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))

abbrev conds0_D (i : grid0.Coords) : Prop := ¬cond0_0 i ∧ cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))

theorem idleAt0_6_A : ∀ t : Fin cfg0.N, cond0_0 (grid0.coords t) → ¬cond0_1 (grid0.coords t) → ¬cond0_2 (grid0.coords t) → cfg0.idle 6 (grid0.coords t) = true := by decide +kernel

theorem noFlush0_6_A : ∀ t : Fin cfg0.N, cond0_0 (grid0.coords t) → ¬cond0_1 (grid0.coords t) → ¬cond0_2 (grid0.coords t) → (cfg0.win 6).flush t = false := by decide +kernel

theorem idleAt0_6_B : ∀ t : Fin cfg0.N, ¬cond0_0 (grid0.coords t) → cond0_1 (grid0.coords t) → ¬cond0_2 (grid0.coords t) → cfg0.idle 6 (grid0.coords t) = true := by decide +kernel

theorem noFlush0_6_B : ∀ t : Fin cfg0.N, ¬cond0_0 (grid0.coords t) → cond0_1 (grid0.coords t) → ¬cond0_2 (grid0.coords t) → (cfg0.win 6).flush t = false := by decide +kernel

theorem liveAt0_6_C : ∀ t : Fin cfg0.N, ¬cond0_0 (grid0.coords t) → cond0_1 (grid0.coords t) → cond0_2 (grid0.coords t) → cond0_3 (grid0.coords t) → cfg0.idle 6 (grid0.coords t) = false :=
  fun t h0 h1 h2 h3 => (by decide +kernel : ∀ t : Fin cfg0.N, conds0_C (grid0.coords t) → cfg0.idle 6 (grid0.coords t) = false) t ⟨h0, h1, h2, h3⟩

theorem liveAt0_6_D : ∀ t : Fin cfg0.N, ¬cond0_0 (grid0.coords t) → cond0_1 (grid0.coords t) → cond0_2 (grid0.coords t) → ¬cond0_3 (grid0.coords t) → cfg0.idle 6 (grid0.coords t) = false :=
  fun t h0 h1 h2 h3 => (by decide +kernel : ∀ t : Fin cfg0.N, conds0_D (grid0.coords t) → cfg0.idle 6 (grid0.coords t) = false) t ⟨h0, h1, h2, h3⟩

def freshTab0_7 : ℕ → Bool
  | 0 => true
  | n + 1 => (0x8000000000000000000f : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)

theorem idleAt0_7_A : ∀ t : Fin cfg0.N, cond0_0 (grid0.coords t) → ¬cond0_1 (grid0.coords t) → ¬cond0_2 (grid0.coords t) → cfg0.idle 7 (grid0.coords t) = true := by decide +kernel

theorem noFlush0_7_A : ∀ t : Fin cfg0.N, cond0_0 (grid0.coords t) → ¬cond0_1 (grid0.coords t) → ¬cond0_2 (grid0.coords t) → (cfg0.win 7).flush t = false := by decide +kernel

theorem idleAt0_7_B : ∀ t : Fin cfg0.N, ¬cond0_0 (grid0.coords t) → cond0_1 (grid0.coords t) → ¬cond0_2 (grid0.coords t) → cfg0.idle 7 (grid0.coords t) = true := by decide +kernel

theorem noFlush0_7_B : ∀ t : Fin cfg0.N, ¬cond0_0 (grid0.coords t) → cond0_1 (grid0.coords t) → ¬cond0_2 (grid0.coords t) → (cfg0.win 7).flush t = false := by decide +kernel

theorem liveAt0_7_C : ∀ t : Fin cfg0.N, ¬cond0_0 (grid0.coords t) → cond0_1 (grid0.coords t) → cond0_2 (grid0.coords t) → cond0_3 (grid0.coords t) → cfg0.idle 7 (grid0.coords t) = false :=
  fun t h0 h1 h2 h3 => (by decide +kernel : ∀ t : Fin cfg0.N, conds0_C (grid0.coords t) → cfg0.idle 7 (grid0.coords t) = false) t ⟨h0, h1, h2, h3⟩

theorem liveAt0_7_D : ∀ t : Fin cfg0.N, ¬cond0_0 (grid0.coords t) → cond0_1 (grid0.coords t) → cond0_2 (grid0.coords t) → ¬cond0_3 (grid0.coords t) → cfg0.idle 7 (grid0.coords t) = false :=
  fun t h0 h1 h2 h3 => (by decide +kernel : ∀ t : Fin cfg0.N, conds0_D (grid0.coords t) → cfg0.idle 7 (grid0.coords t) = false) t ⟨h0, h1, h2, h3⟩

theorem notFresh0_7_D : ∀ t : Fin cfg0.N, ¬cond0_0 (grid0.coords t) → cond0_1 (grid0.coords t) → cond0_2 (grid0.coords t) → ¬cond0_3 (grid0.coords t) → cfg0.fresh 7 t.val = false :=
  fun t h0 h1 h2 h3 => (by intro t; rw [fresh0_7_eq t]; revert t; decide +kernel : ∀ t : Fin cfg0.N, conds0_D (grid0.coords t) → cfg0.fresh 7 t.val = false) t ⟨h0, h1, h2, h3⟩

def freshTab0_8 : ℕ → Bool
  | 0 => true
  | n + 1 => (0x8000000000000000000f : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)

theorem idleAt0_8_A : ∀ t : Fin cfg0.N, cond0_0 (grid0.coords t) → ¬cond0_1 (grid0.coords t) → ¬cond0_2 (grid0.coords t) → cfg0.idle 8 (grid0.coords t) = true := by decide +kernel

theorem noFlush0_8_A : ∀ t : Fin cfg0.N, cond0_0 (grid0.coords t) → ¬cond0_1 (grid0.coords t) → ¬cond0_2 (grid0.coords t) → (cfg0.win 8).flush t = false := by decide +kernel

theorem idleAt0_8_B : ∀ t : Fin cfg0.N, ¬cond0_0 (grid0.coords t) → cond0_1 (grid0.coords t) → ¬cond0_2 (grid0.coords t) → cfg0.idle 8 (grid0.coords t) = true := by decide +kernel

theorem noFlush0_8_B : ∀ t : Fin cfg0.N, ¬cond0_0 (grid0.coords t) → cond0_1 (grid0.coords t) → ¬cond0_2 (grid0.coords t) → (cfg0.win 8).flush t = false := by decide +kernel

theorem liveAt0_8_C : ∀ t : Fin cfg0.N, ¬cond0_0 (grid0.coords t) → cond0_1 (grid0.coords t) → cond0_2 (grid0.coords t) → cond0_3 (grid0.coords t) → cfg0.idle 8 (grid0.coords t) = false :=
  fun t h0 h1 h2 h3 => (by decide +kernel : ∀ t : Fin cfg0.N, conds0_C (grid0.coords t) → cfg0.idle 8 (grid0.coords t) = false) t ⟨h0, h1, h2, h3⟩

theorem liveAt0_8_D : ∀ t : Fin cfg0.N, ¬cond0_0 (grid0.coords t) → cond0_1 (grid0.coords t) → cond0_2 (grid0.coords t) → ¬cond0_3 (grid0.coords t) → cfg0.idle 8 (grid0.coords t) = false :=
  fun t h0 h1 h2 h3 => (by decide +kernel : ∀ t : Fin cfg0.N, conds0_D (grid0.coords t) → cfg0.idle 8 (grid0.coords t) = false) t ⟨h0, h1, h2, h3⟩

theorem notFresh0_8_D : ∀ t : Fin cfg0.N, ¬cond0_0 (grid0.coords t) → cond0_1 (grid0.coords t) → cond0_2 (grid0.coords t) → ¬cond0_3 (grid0.coords t) → cfg0.fresh 8 t.val = false :=
  fun t h0 h1 h2 h3 => (by intro t; rw [fresh0_8_eq t]; revert t; decide +kernel : ∀ t : Fin cfg0.N, conds0_D (grid0.coords t) → cfg0.fresh 8 t.val = false) t ⟨h0, h1, h2, h3⟩

def freshTab0_9 : ℕ → Bool
  | 0 => true
  | n + 1 => (0x8000000000000000000f : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)

theorem idleAt0_9_A : ∀ t : Fin cfg0.N, cond0_0 (grid0.coords t) → ¬cond0_1 (grid0.coords t) → ¬cond0_2 (grid0.coords t) → cfg0.idle 9 (grid0.coords t) = true := by decide +kernel

theorem noFlush0_9_A : ∀ t : Fin cfg0.N, cond0_0 (grid0.coords t) → ¬cond0_1 (grid0.coords t) → ¬cond0_2 (grid0.coords t) → (cfg0.win 9).flush t = false := by decide +kernel

theorem idleAt0_9_B : ∀ t : Fin cfg0.N, ¬cond0_0 (grid0.coords t) → cond0_1 (grid0.coords t) → ¬cond0_2 (grid0.coords t) → cfg0.idle 9 (grid0.coords t) = true := by decide +kernel

theorem noFlush0_9_B : ∀ t : Fin cfg0.N, ¬cond0_0 (grid0.coords t) → cond0_1 (grid0.coords t) → ¬cond0_2 (grid0.coords t) → (cfg0.win 9).flush t = false := by decide +kernel

theorem liveAt0_9_C : ∀ t : Fin cfg0.N, ¬cond0_0 (grid0.coords t) → cond0_1 (grid0.coords t) → cond0_2 (grid0.coords t) → cond0_3 (grid0.coords t) → cfg0.idle 9 (grid0.coords t) = false :=
  fun t h0 h1 h2 h3 => (by decide +kernel : ∀ t : Fin cfg0.N, conds0_C (grid0.coords t) → cfg0.idle 9 (grid0.coords t) = false) t ⟨h0, h1, h2, h3⟩

theorem liveAt0_9_D : ∀ t : Fin cfg0.N, ¬cond0_0 (grid0.coords t) → cond0_1 (grid0.coords t) → cond0_2 (grid0.coords t) → ¬cond0_3 (grid0.coords t) → cfg0.idle 9 (grid0.coords t) = false :=
  fun t h0 h1 h2 h3 => (by decide +kernel : ∀ t : Fin cfg0.N, conds0_D (grid0.coords t) → cfg0.idle 9 (grid0.coords t) = false) t ⟨h0, h1, h2, h3⟩

theorem notFresh0_9_D : ∀ t : Fin cfg0.N, ¬cond0_0 (grid0.coords t) → cond0_1 (grid0.coords t) → cond0_2 (grid0.coords t) → ¬cond0_3 (grid0.coords t) → cfg0.fresh 9 t.val = false :=
  fun t h0 h1 h2 h3 => (by intro t; rw [fresh0_9_eq t]; revert t; decide +kernel : ∀ t : Fin cfg0.N, conds0_D (grid0.coords t) → cfg0.fresh 9 t.val = false) t ⟨h0, h1, h2, h3⟩

abbrev VO0_6 : View sig .tc .vmem S512x2048 .f32 := (Memref.whole cc0_stg6_0 : Memref sig .tc .vmem S512x2048 .f32).view

abbrev VO0_7 : View sig .tc .vmem S1x2048 .f32 := (Memref.whole cc0_stg7_0 : Memref sig .tc .vmem S1x2048 .f32).view

abbrev VO0_8 : View sig .tc .vmem S1x2048 .f32 := (Memref.whole cc0_stg8_0 : Memref sig .tc .vmem S1x2048 .f32).view

abbrev VO0_9 : View sig .tc .vmem S1x2048 .f32 := (Memref.whole cc0_stg9_0 : Memref sig .tc .vmem S1x2048 .f32).view

abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)

abbrev scM0_0 : Memref sig .tc .vmem S512x2048 .f32 := Memref.whole cc0_scratch0

abbrev VS0_0 : View sig .tc .vmem S512x2048 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InDxIdeal.Body

end
-- ==== Proof.InDxAccum.lean ====
/- The call `w_in_dx_prenorm_bwd` at the points that only accumulate the product: the body's run and what it stores. -/
module

public import proofs.«01_k».proof.Proof.InDxCases

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) :
    Σ' (L6 : List (View.Piece (Elt F) S512x2048 .f32)), Σ' (L7 : List (View.Piece (Elt F) S1x2048 .f32)), Σ' (L8 : List (View.Piece (Elt F) S1x2048 .f32)), Σ' (L9 : List (View.Piece (Elt F) S1x2048 .f32)), { LS0 : List (View.Piece (Elt F) S512x2048 .f32) //
      ∀ (xi6 : Vec F S512x2048 .f32) (xi7 : Vec F S1x2048 .f32) (xi8 : Vec F S1x2048 .f32) (xi9 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_w_in_dx_prenorm_bwd i arg2 harg2 arg3 harg3 arg4 harg4 arg5 harg5 arg6 harg6 arg7 harg7 arg8 harg8 arg9 harg9 arg10 harg10 arg11 harg11 arg12 harg12) K } := by
  refine ⟨[], [], [], [], ?_, fun xi6 xi7 xi8 xi9 E K => ?run⟩
  case run =>
    simp only [cc0_w_in_dx_prenorm_bwd_eq_skeleton]; unfold cc0_w_in_dx_prenorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

set_option maxHeartbeats 1000000 in

noncomputable def kernelRun0_B (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) :
    Σ' (L6 : List (View.Piece (Elt F) S512x2048 .f32)), Σ' (L7 : List (View.Piece (Elt F) S1x2048 .f32)), Σ' (L8 : List (View.Piece (Elt F) S1x2048 .f32)), Σ' (L9 : List (View.Piece (Elt F) S1x2048 .f32)), { LS0 : List (View.Piece (Elt F) S512x2048 .f32) //
      ∀ (xi6 : Vec F S512x2048 .f32) (xi7 : Vec F S1x2048 .f32) (xi8 : Vec F S1x2048 .f32) (xi9 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_w_in_dx_prenorm_bwd i arg2 harg2 arg3 harg3 arg4 harg4 arg5 harg5 arg6 harg6 arg7 harg7 arg8 harg8 arg9 harg9 arg10 harg10 arg11 harg11 arg12 harg12) K } := by
  refine ⟨[], [], [], [], ?_, fun xi6 xi7 xi8 xi9 E K => ?run⟩
  case run =>
    simp only [cc0_w_in_dx_prenorm_bwd_eq_skeleton]; unfold cc0_w_in_dx_prenorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.InDxIdeal.Body

end
-- ==== Proof.InDxTrips.lean ====
/- The loop over the two halves of a block in `w_in_dx_prenorm_bwd`: what a trip stores. -/
module

public import proofs.«01_k».proof.Proof.InDxAccum

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one trip stores does not depend on what the output block of `dx` held before it. -/
theorem trip_any (𝒱 : Variants) (c : Dev nD) (bd : Option 𝒱.V) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (k0_h3 : k0_cond3 i = 1#1) (v16 : Vec F S1x2048 .f32) (v17 : Vec F S1x2048 .f32) (X_arg4 : BufTy.Contents (Elt F) arg4.view.ty) (X_arg7 : BufTy.Contents (Elt F) arg7.view.ty) (X_arg12 : BufTy.Contents (Elt F) arg12.view.ty) (k : Fin k0_t1_loop.trips) (f8 g8 : BufTy.Contents (Elt F) arg8.view.ty) (f9 : BufTy.Contents (Elt F) arg9.view.ty) (f10 : BufTy.Contents (Elt F) arg10.view.ty) (f11 : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 k f8 f9 f10 f11 = tripL_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 k g8 f9 f10 f11 := by
  delta tripL_k0_t1 trip_k0_t1; rfl

/-- The stores of the first `k` trips do not depend on what the output block of `dx` held before the loop. -/
theorem pb_any (𝒱 : Variants) (c : Dev nD) (bd : Option 𝒱.V) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (k0_h3 : k0_cond3 i = 1#1) (v16 : Vec F S1x2048 .f32) (v17 : Vec F S1x2048 .f32) (X_arg4 : BufTy.Contents (Elt F) arg4.view.ty) (X_arg7 : BufTy.Contents (Elt F) arg7.view.ty) (X_arg12 : BufTy.Contents (Elt F) arg12.view.ty) (G8 H8 : BufTy.Contents (Elt F) arg8.view.ty) (G9 : BufTy.Contents (Elt F) arg9.view.ty) (G10 : BufTy.Contents (Elt F) arg10.view.ty) (G11 : BufTy.Contents (Elt F) arg11.view.ty) : ∀ k : ℕ,
    pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 G8 G9 G10 G11 k = pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 H8 G9 G10 G11 k := by
  intro k
  induction k with
  | zero => rfl
  | succ k ih =>
    by_cases h : k < k0_t1_loop.trips
    · have e := pb_k0_t1_succ (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 G8 G9 G10 G11 ⟨k, h⟩
      have e' := pb_k0_t1_succ (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 H8 G9 G10 G11 ⟨k, h⟩
      dsimp only at e e'
      rw [e, e', ih]
      have ht := trip_any (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 ⟨k, h⟩ (arg8.view.writes (Elt F) G8 (pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 H8 G9 G10 G11 k).1) (arg8.view.writes (Elt F) H8 (pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 H8 G9 G10 G11 k).1)
        (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 H8 G9 G10 G11 k).2.1) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 H8 G9 G10 G11 k).2.2.1)
        (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 H8 G9 G10 G11 k).2.2.2)
      simp only [Prod.mk.injEq] at ht
      obtain ⟨t1, t2, t3, t4⟩ := ht
      rw [t1, t2, t3, t4]
    · rw [pb_k0_t1.eq_2, pb_k0_t1.eq_2, ih]
      unfold pb_k0_t1Step
      rw [dif_neg h, dif_neg h]

end Cert.InDxIdeal.Body

end
-- ==== Proof.InDxTail.lean ====
/- The call `w_in_dx_prenorm_bwd` at a block's last point: the body's run and what it stores. -/
module

public import proofs.«01_k».proof.Proof.InDxTrips

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_C (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) :
    Σ' (L6 : List (View.Piece (Elt F) S512x2048 .f32)), Σ' (L7 : List (View.Piece (Elt F) S1x2048 .f32)), Σ' (L8 : List (View.Piece (Elt F) S1x2048 .f32)), Σ' (L9 : List (View.Piece (Elt F) S1x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_w_in_dx_prenorm_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_w_in_dx_prenorm_bwd_eq_skeleton]; unfold cc0_w_in_dx_prenorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0 | sl_exact hc1 | sl_exact hc2 | sl_exact hc3)
    rw [pb_any (H8 := arg8.view.junk)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

set_option maxHeartbeats 1000000 in

noncomputable def kernelRun0_D (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) :
    Σ' (L6 : List (View.Piece (Elt F) S512x2048 .f32)), Σ' (L7 : List (View.Piece (Elt F) S1x2048 .f32)), Σ' (L8 : List (View.Piece (Elt F) S1x2048 .f32)), Σ' (L9 : List (View.Piece (Elt F) S1x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8 ∗ owns (c : Thread nD τ) arg11 fullShare xo9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_w_in_dx_prenorm_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_w_in_dx_prenorm_bwd_eq_skeleton]; unfold cc0_w_in_dx_prenorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hfs0
    sl_exec (disch := first | sl_exact hc0 | sl_exact hc1 | sl_exact hc2 | sl_exact hc3)
    rw [pb_any (H8 := arg8.view.junk)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.InDxIdeal.Body

end
-- ==== Proof.InDxFrame.lean ====
/- The call `w_in_dx_prenorm_bwd`: what its outputs and its accumulator hold point by point, and the whole launch. -/
module

public import proofs.«01_k».proof.Proof.InDxTail
public import Idealize.ShloMosaic.Lib.Claim

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def out0_A_6 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) : Vec F S512x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).1)

def out0_A_7 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) : Vec F S1x2048 .f32 := xo7

def out0_A_8 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo8 : Vec F S1x2048 .f32) : Vec F S1x2048 .f32 := xo8

def out0_A_9 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo9 : Vec F S1x2048 .f32) : Vec F S1x2048 .f32 := xo9

theorem scover0_A_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1 S512x2048.size (by sl_kernel_rfl) y

def sout0_A_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) : Vec F S512x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1)

def out0_B_6 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) : Vec F S512x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).1)

def out0_B_7 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (xo7 : Vec F S1x2048 .f32) : Vec F S1x2048 .f32 := xo7

def out0_B_8 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (xo8 : Vec F S1x2048 .f32) : Vec F S1x2048 .f32 := xo8

def out0_B_9 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (xo9 : Vec F S1x2048 .f32) : Vec F S1x2048 .f32 := xo9

theorem scover0_B_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1 S512x2048.size (by sl_kernel_rfl) y

def sout0_B_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1)

theorem cover0_C_6 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).1 S256x2048.size (by sl_kernel_rfl) y

def out0_C_6 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) : Vec F S512x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).1)

theorem cover0_C_7 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.1 S1x2048.size (by sl_kernel_rfl) y

def out0_C_7 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) : Vec F S1x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.1)

theorem cover0_C_8 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.1 S1x2048.size (by sl_kernel_rfl) y

def out0_C_8 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) : Vec F S1x2048 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.1)

theorem cover0_C_9 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (y : S1x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.2.1 S1x2048.size (by sl_kernel_rfl) y

def out0_C_9 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) : Vec F S1x2048 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.2.1)

theorem scover0_C_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.2.2.1 S512x2048.size (by sl_kernel_rfl) y

def sout0_C_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0).2.2.2.2.1)

theorem cover0_D_6 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) (y : S512x2048.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).1 S256x2048.size (by sl_kernel_rfl) y

def out0_D_6 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) : Vec F S512x2048 .f32 :=
  VO0_6.read (Elt F) (VO0_6.writes (Elt F) VO0_6.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).1)

theorem cover0_D_7 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) (y : S1x2048.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.1 S1x2048.size (by sl_kernel_rfl) y

def out0_D_7 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) : Vec F S1x2048 .f32 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.1)

theorem cover0_D_8 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) (y : S1x2048.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.1 S1x2048.size (by sl_kernel_rfl) y

def out0_D_8 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) : Vec F S1x2048 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.1)

theorem cover0_D_9 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) (y : S1x2048.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.2.1 S1x2048.size (by sl_kernel_rfl) y

def out0_D_9 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) : Vec F S1x2048 .f32 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.2.1)

theorem scover0_D_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) (y : S512x2048.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.2.2.1 S512x2048.size (by sl_kernel_rfl) y

def sout0_D_0 (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) : Vec F S512x2048 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0).2.2.2.2.1)

def outsAt0 (c : Dev nD) : (n : ℕ) → n < cfg0.N → Vec F S512x2048 .f32 × Vec F S1x2048 .f32 × Vec F S1x2048 .f32 × Vec F S1x2048 .f32 × Vec F S512x2048 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VS0_0.read (Elt F) VS0_0.junk) : Vec F S512x2048 .f32 × Vec F S1x2048 .f32 × Vec F S1x2048 .f32 × Vec F S1x2048 .f32 × Vec F S512x2048 .f32).2.1, out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VS0_0.read (Elt F) VS0_0.junk) : Vec F S512x2048 .f32 × Vec F S1x2048 .f32 × Vec F S1x2048 .f32 × Vec F S1x2048 .f32 × Vec F S512x2048 .f32).2.2.1, out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VS0_0.read (Elt F) VS0_0.junk) : Vec F S512x2048 .f32 × Vec F S1x2048 .f32 × Vec F S1x2048 .f32 × Vec F S1x2048 .f32 × Vec F S512x2048 .f32).2.2.2.1, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 5 = 0 then
      if h1 : 1 ≤ (n + 1) % 5 then
        False.elim (by have hN : n + 1 < 80 := lt_of_lt_of_eq hn (show cfg0.N = 80 from N_0); omega)
      else
        if h2 : (n + 1) % 5 = 4 then
          False.elim (by have hN : n + 1 < 80 := lt_of_lt_of_eq hn (show cfg0.N = 80 from N_0); omega)
        else
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1, out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1, out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : 1 ≤ (n + 1) % 5 then
        if h2 : (n + 1) % 5 = 4 then
          if h3 : (n + 1) < 5 then
            (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2)
          else
            (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
        else
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).2.1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).2.2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2 (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2)
      else
        False.elim (by have hN : n + 1 < 80 := lt_of_lt_of_eq hn (show cfg0.N = 80 from N_0); omega)

theorem outsAt0_A (c : Dev nD) (t : Fin cfg0.N) (h0 : t.val % 5 = 0) (h1 : ¬1 ≤ t.val % 5) (h2 : ¬t.val % 5 = 4) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 5 = 0) (h1 : 1 ≤ t.val % 5) (h2 : ¬t.val % 5 = 4) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 5 = 0) (h1 : 1 ≤ t.val % 5) (h2 : t.val % 5 = 4) (h3 : t.val < 5) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_pos h2).trans ((dif_pos h3).trans rfl)))

theorem outsAt0_D (c : Dev nD) (t : Fin cfg0.N) (h0 : ¬t.val % 5 = 0) (h1 : 1 ≤ t.val % 5) (h2 : t.val % 5 = 4) (h3 : ¬t.val < 5) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans rfl)))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 80 := lt_of_lt_of_eq t.isLt (show cfg0.N = 80 from N_0)
  rw [after0_7, after0_7]
  by_cases h0 : t.val % 5 = 0
  · by_cases h1 : 1 ≤ t.val % 5
    · exfalso; omega
    · by_cases h2 : t.val % 5 = 4
      · exfalso; omega
      · rw [outsAt0_A m c t h0 h1 h2]
        dsimp only
        unfold out0_A_7
        rfl
  · by_cases h1 : 1 ≤ t.val % 5
    · by_cases h2 : t.val % 5 = 4
      · by_cases h3 : t.val < 5
        · rw [liveAt0_7_C t (fun h => h0 ((hcond0_0 t).mp h)) ((hcond0_1 t).mpr h1) ((hcond0_2 t).mpr h2) ((hcond0_3 t).mpr h3)] at hi
          exact absurd hi Bool.false_ne_true
        · rw [liveAt0_7_D t (fun h => h0 ((hcond0_0 t).mp h)) ((hcond0_1 t).mpr h1) ((hcond0_2 t).mpr h2) (fun h => h3 ((hcond0_3 t).mp h))] at hi
          exact absurd hi Bool.false_ne_true
      · rw [outsAt0_B m c t h0 h1 h2]
        dsimp only
        unfold out0_B_7
        rfl
    · exfalso; omega

theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 80 := lt_of_lt_of_eq t.isLt (show cfg0.N = 80 from N_0)
  rw [after0_8, after0_8]
  by_cases h0 : t.val % 5 = 0
  · by_cases h1 : 1 ≤ t.val % 5
    · exfalso; omega
    · by_cases h2 : t.val % 5 = 4
      · exfalso; omega
      · rw [outsAt0_A m c t h0 h1 h2]
        dsimp only
        unfold out0_A_8
        rfl
  · by_cases h1 : 1 ≤ t.val % 5
    · by_cases h2 : t.val % 5 = 4
      · by_cases h3 : t.val < 5
        · rw [liveAt0_8_C t (fun h => h0 ((hcond0_0 t).mp h)) ((hcond0_1 t).mpr h1) ((hcond0_2 t).mpr h2) ((hcond0_3 t).mpr h3)] at hi
          exact absurd hi Bool.false_ne_true
        · rw [liveAt0_8_D t (fun h => h0 ((hcond0_0 t).mp h)) ((hcond0_1 t).mpr h1) ((hcond0_2 t).mpr h2) (fun h => h3 ((hcond0_3 t).mp h))] at hi
          exact absurd hi Bool.false_ne_true
      · rw [outsAt0_B m c t h0 h1 h2]
        dsimp only
        unfold out0_B_8
        rfl
    · exfalso; omega

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 80 := lt_of_lt_of_eq t.isLt (show cfg0.N = 80 from N_0)
  rw [after0_9, after0_9]
  by_cases h0 : t.val % 5 = 0
  · by_cases h1 : 1 ≤ t.val % 5
    · exfalso; omega
    · by_cases h2 : t.val % 5 = 4
      · exfalso; omega
      · rw [outsAt0_A m c t h0 h1 h2]
        dsimp only
        unfold out0_A_9
        rfl
  · by_cases h1 : 1 ≤ t.val % 5
    · by_cases h2 : t.val % 5 = 4
      · by_cases h3 : t.val < 5
        · rw [liveAt0_9_C t (fun h => h0 ((hcond0_0 t).mp h)) ((hcond0_1 t).mpr h1) ((hcond0_2 t).mpr h2) ((hcond0_3 t).mpr h3)] at hi
          exact absurd hi Bool.false_ne_true
        · rw [liveAt0_9_D t (fun h => h0 ((hcond0_0 t).mp h)) ((hcond0_1 t).mpr h1) ((hcond0_2 t).mpr h2) (fun h => h3 ((hcond0_3 t).mp h))] at hi
          exact absurd hi Bool.false_ne_true
      · rw [outsAt0_B m c t h0 h1 h2]
        dsimp only
        unfold out0_B_9
        rfl
    · exfalso; omega

theorem before0_7_D (c : Dev nD) (t : Fin cfg0.N) (h0 : ¬t.val % 5 = 0) (h1 : 1 ≤ t.val % 5) (h2 : t.val % 5 = 4) (h3 : ¬t.val < 5) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_D t (fun h => h0 ((hcond0_0 t).mp h)) ((hcond0_1 t).mpr h1) ((hcond0_2 t).mpr h2) (fun h => h3 ((hcond0_3 t).mp h))]; exact Bool.false_ne_true)]
  dsimp only [dats]

theorem before0_8_D (c : Dev nD) (t : Fin cfg0.N) (h0 : ¬t.val % 5 = 0) (h1 : 1 ≤ t.val % 5) (h2 : t.val % 5 = 4) (h3 : ¬t.val < 5) (d) :
    (dats m 0 c).before 8 t d = (outsAt0 m c (t.val - 1) (Nat.lt_of_le_of_lt (Nat.sub_le _ _) t.isLt)).2.2.1 := by
  rw [Dat.before_out_traj _ 8 rfl (fun _ _ => rfl) (hcarry0_8 m c) t.val t rfl d,
    if_neg (by rw [notFresh0_8_D t (fun h => h0 ((hcond0_0 t).mp h)) ((hcond0_1 t).mpr h1) ((hcond0_2 t).mpr h2) (fun h => h3 ((hcond0_3 t).mp h))]; exact Bool.false_ne_true)]
  dsimp only [dats]

theorem before0_9_D (c : Dev nD) (t : Fin cfg0.N) (h0 : ¬t.val % 5 = 0) (h1 : 1 ≤ t.val % 5) (h2 : t.val % 5 = 4) (h3 : ¬t.val < 5) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_D t (fun h => h0 ((hcond0_0 t).mp h)) ((hcond0_1 t).mpr h1) ((hcond0_2 t).mpr h2) (fun h => h3 ((hcond0_3 t).mp h))]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 12800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 80 := lt_of_lt_of_eq t.isLt (show cfg0.N = 80 from N_0)
  by_cases h0 : t.val % 5 = 0
  · by_cases h1 : 1 ≤ t.val % 5
    · exfalso; omega
    · by_cases h2 : t.val % 5 = 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
        rw [Dat.leavesExact_idle (dats m 0 c) 7 t (idleAt0_7_A t ((hcond0_0 t).mpr h0) (fun h => h1 ((hcond0_1 t).mp h)) (fun h => h2 ((hcond0_2 t).mp h))) (noFlush0_7_A t ((hcond0_0 t).mpr h0) (fun h => h1 ((hcond0_1 t).mp h)) (fun h => h2 ((hcond0_2 t).mp h)))]
        rw [Dat.leavesExact_idle (dats m 0 c) 8 t (idleAt0_8_A t ((hcond0_0 t).mpr h0) (fun h => h1 ((hcond0_1 t).mp h)) (fun h => h2 ((hcond0_2 t).mp h))) (noFlush0_8_A t ((hcond0_0 t).mpr h0) (fun h => h1 ((hcond0_1 t).mp h)) (fun h => h2 ((hcond0_2 t).mp h)))]
        rw [Dat.leavesExact_idle (dats m 0 c) 9 t (idleAt0_9_A t ((hcond0_0 t).mpr h0) (fun h => h1 ((hcond0_1 t).mp h)) (fun h => h2 ((hcond0_2 t).mp h))) (noFlush0_9_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)).2.2.2.2.2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          iintro ⟨H0, H1, H2, H3, H4, H5, H6, H7, H8, H9, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          iexists _; iexact H9
        · rw [PhiS_castSucc m c t, PhiS_pos m c _ _ hz]
          rw [outsAt0_A m c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)).2.2.2.2.2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexists _; iexact HS0
          iintro ⟨H0, H1, H2, H3, H4, H5, H6, H7, H8, H9, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          iexists _; iexact H9
  · by_cases h1 : 1 ≤ t.val % 5
    · by_cases h2 : t.val % 5 = 4
      · by_cases h3 : t.val < 5
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) ((hcond0_2 t).mpr h2) ((hcond0_3 t).mpr h3)], after0_6]
          rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1) ((hcond0_2 t).mpr h2) ((hcond0_3 t).mpr h3)], after0_7]
          rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1) ((hcond0_2 t).mpr h2) ((hcond0_3 t).mpr h3)], after0_8]
          rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1) ((hcond0_2 t).mpr h2) ((hcond0_3 t).mpr h3)], after0_9]
          by_cases hz : t.val = 0
          · exfalso; have hN : t.val < 80 := lt_of_lt_of_eq t.isLt (show cfg0.N = 80 from N_0); omega
          · rw [PhiS_castSucc m c t, PhiS_pos m c _ _ hz]
            rw [outsAt0_C m c t h0 h1 h2 h3]
            unfold out0_C_6 out0_C_7 out0_C_8 out0_C_9 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_C c (grid0.coords t) _ _ _ _ _ _ _ _ _ _ _ _ _ _ _ _ _ _ _ _ _ _ (fun h => h0 ((hcond0_0 t).mp h)) ((hcond0_1 t).mpr h1) ((hcond0_2 t).mpr h2) ((hcond0_3 t).mpr h3) (iblk m c 0 t) (iblk m c 1 t) (iblk m c 2 t) (iblk m c 3 t) (iblk m c 4 t) (iblk m c 5 t) _).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [H8]; · iexists _; iexact H8
            isplitl [H9]; · iexists _; iexact H9
            isplitl [HS0]; · iexact HS0
            iintro ⟨H0, H1, H2, H3, H4, H5, ⟨%e6, H6⟩, ⟨%e7, H7⟩, ⟨%e8, H8⟩, ⟨%e9, H9⟩, ⟨%es0, HS0⟩⟩
            isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_C_6 c _ _ _ _ _ _ _ _ _ _ _ _ _ _ _ _ _ _ _ _ _ _ _ _ _ _ _ _ _ _ _ _ _ _)
            isplitl [H7]
            · unfold owns; iexists _; isplitr
              swap; · iexact H7
              ipureintro; exact View.read_writes_of_cover _ _ _ _ _ (cover0_C_7 c _ _ _ _ _ _ _ _ _ _ _ _ _ _ _ _ _ _ _ _ _ _ _ _ _ _ _ _ _ _ _ _ _ _)
            isplitl [H8]
            · unfold owns; iexists _; isplitr
              swap; · iexact H8
              ipureintro; exact View.read_writes_of_cover _ _ _ _ _ (cover0_C_8 c _ _ _ _ _ _ _ _ _ _ _ _ _ _ _ _ _ _ _ _ _ _ _ _ _ _ _ _ _ _ _ _ _ _)
            unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_D t (fun h => h0 ((hcond0_0 t).mp h)) ((hcond0_1 t).mpr h1) ((hcond0_2 t).mpr h2) (fun h => h3 ((hcond0_3 t).mp h))], after0_6]
          rw [show (dats m 0 c).leavesExact 7 t = owns (c : Thread nD τ) (ms0_7 t) fullShare ((dats m 0 c).after 7 t) from by
      unfold Dat.leavesExact; rw [liveAt0_7_D t (fun h => h0 ((hcond0_0 t).mp h)) ((hcond0_1 t).mpr h1) ((hcond0_2 t).mpr h2) (fun h => h3 ((hcond0_3 t).mp h))], after0_7]
          rw [show (dats m 0 c).leavesExact 8 t = owns (c : Thread nD τ) (ms0_8 t) fullShare ((dats m 0 c).after 8 t) from by
      unfold Dat.leavesExact; rw [liveAt0_8_D t (fun h => h0 ((hcond0_0 t).mp h)) ((hcond0_1 t).mpr h1) ((hcond0_2 t).mpr h2) (fun h => h3 ((hcond0_3 t).mp h))], after0_8]
          rw [show (dats m 0 c).leavesExact 9 t = owns (c : Thread nD τ) (ms0_9 t) fullShare ((dats m 0 c).after 9 t) from by
      unfold Dat.leavesExact; rw [liveAt0_9_D t (fun h => h0 ((hcond0_0 t).mp h)) ((hcond0_1 t).mpr h1) ((hcond0_2 t).mpr h2) (fun h => h3 ((hcond0_3 t).mp h))], after0_9]
          by_cases hz : t.val = 0
          · exfalso; have hN : t.val < 80 := lt_of_lt_of_eq t.isLt (show cfg0.N = 80 from N_0); omega
          · rw [PhiS_castSucc m c t, PhiS_pos m c _ _ hz]
            rw [outsAt0_D m c t h0 h1 h2 h3]
            simp only [before0_7_D m c t h0 h1 h2 h3, before0_8_D m c t h0 h1 h2 h3, before0_9_D m c t h0 h1 h2 h3]
            unfold out0_D_6 out0_D_7 out0_D_8 out0_D_9 sout0_D_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_D c (grid0.coords t) _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) _ _ _ _).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            isplitl [H9]; · iexact H9
            isplitl [HS0]; · iexact HS0
            iintro ⟨H0, H1, H2, H3, H4, H5, ⟨%e6, H6⟩, ⟨%e7, H7⟩, ⟨%e8, H8⟩, ⟨%e9, H9⟩, ⟨%es0, HS0⟩⟩
            isplitl [HS0 Hg]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_D_6 c _ _ _ _ _ _ _ _ _ _ _ _ _ _ _ _ _ _ _ _ _ _ _ _ _ _ _ _ _ _ _ _ _ _ _ _ _)
            isplitl [H7]
            · unfold owns; iexists _; isplitr
              swap; · iexact H7
              ipureintro; exact View.read_writes_of_cover _ _ _ _ _ (cover0_D_7 c _ _ _ _ _ _ _ _ _ _ _ _ _ _ _ _ _ _ _ _ _ _ _ _ _ _ _ _ _ _ _ _ _ _ _ _ _)
            isplitl [H8]
            · unfold owns; iexists _; isplitr
              swap; · iexact H8
              ipureintro; exact View.read_writes_of_cover _ _ _ _ _ (cover0_D_8 c _ _ _ _ _ _ _ _ _ _ _ _ _ _ _ _ _ _ _ _ _ _ _ _ _ _ _ _ _ _ _ _ _ _ _ _ _)
            unfold owns; iexists _; isplitr
            swap; · iexact H9
            ipureintro; exact View.read_writes_of_cover _ _ _ _ _ (cover0_D_9 c _ _ _ _ _ _ _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
        rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
        rw [Dat.leavesExact_idle (dats m 0 c) 8 t (idleAt0_8_B t (fun h => h0 ((hcond0_0 t).mp h)) ((hcond0_1 t).mpr h1) (fun h => h2 ((hcond0_2 t).mp h))) (noFlush0_8_B t (fun h => h0 ((hcond0_0 t).mp h)) ((hcond0_1 t).mpr h1) (fun h => h2 ((hcond0_2 t).mp h)))]
        rw [Dat.leavesExact_idle (dats m 0 c) 9 t (idleAt0_9_B t (fun h => h0 ((hcond0_0 t).mp h)) ((hcond0_1 t).mpr h1) (fun h => h2 ((hcond0_2 t).mp h))) (noFlush0_9_B t (fun h => h0 ((hcond0_0 t).mp h)) ((hcond0_1 t).mpr h1) (fun h => h2 ((hcond0_2 t).mp h)))]
        by_cases hz : t.val = 0
        · exfalso; have hN : t.val < 80 := lt_of_lt_of_eq t.isLt (show cfg0.N = 80 from N_0); omega
        · rw [PhiS_castSucc m c t, PhiS_pos m c _ _ hz]
          rw [outsAt0_B m c t h0 h1 h2]
          unfold sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _).2.2.2.2.2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          iintro ⟨H0, H1, H2, H3, H4, H5, H6, H7, H8, H9, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          iexists _; iexact H9
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 80 := N_0; omega)

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.InDxIdeal.Body

end
-- ==== Proof.InDxMath.lean ====
module

public import Idealize.ShloMosaic.Lib.IdealHost

/-! The gradient of a row's norm: the kernel takes the norm's factor out of the sum and out of the difference, the reference
    differentiates line by line. Over the reals extended by the infinities both are one number, at every row. -/

@[expose] public section
noncomputable section
namespace InDxMath
open Idealize.ShloMosaic

/-- The row's length, the norm's small constant and minus one half, as the programs spell them. -/
abbrev C : EReal := Ideal.ofBits .f32 0x45000000#32
abbrev E : EReal := Ideal.ofBits .f32 0x358637BD#32
abbrev H : EReal := Ideal.ofBits .f32 0xBF000000#32

theorem C_eq : C = ((2048 : ℝ) : EReal) := by
  simp [Ideal.ofBits, Ideal.ieee, -EReal.coe_mul]; norm_num
theorem H_eq : H = ((-(1 / 2) : ℝ) : EReal) := by
  simp [Ideal.ofBits, Ideal.ieee, -EReal.coe_mul, -EReal.coe_neg]; norm_num
theorem E_eq : ∃ e : ℝ, 0 < e ∧ E = (e : EReal) := by
  refine ⟨_, ?_, by simp [Ideal.ofBits, Ideal.ieee, -EReal.coe_mul]; rfl⟩
  positivity

/-- The mean square of a row with the small constant added, and the norm's factor. -/
def ms (x : Fin 2048 → EReal) : EReal := Ideal.div (∑ k, x k * x k) C + E
def rs (x : Fin 2048 → EReal) : EReal := Ideal.rsqrt (ms x)

theorem divC (y : EReal) : Ideal.div y C = y * ((1 / 2048 : ℝ) : EReal) := by
  rw [C_eq]; exact Ideal.div_coe (by norm_num) y

theorem sq_nonneg' (a : EReal) : 0 ≤ a * a := by
  induction a with
  | bot => simp
  | top => simp
  | coe r => rw [← EReal.coe_mul]; exact_mod_cast mul_self_nonneg r

/-- The mean square is a positive real or infinite. -/
theorem ms_cases (x : Fin 2048 → EReal) : ms x = ⊤ ∨ ∃ v : ℝ, 0 < v ∧ ms x = (v : EReal) := by
  obtain ⟨e, he, hE⟩ := E_eq
  have hs : 0 ≤ ∑ k, x k * x k := Finset.sum_nonneg fun k _ => sq_nonneg' _
  unfold ms
  rw [divC, hE]
  generalize (∑ k, x k * x k) = s at hs
  induction s with
  | bot => simp at hs
  | top => left; rw [EReal.top_mul_coe_of_pos (by norm_num), EReal.top_add_coe]
  | coe r =>
    right
    have hr : 0 ≤ r := by exact_mod_cast hs
    refine ⟨r * (1 / 2048) + e, by positivity, by push_cast; rfl⟩

/-- A real factor comes out of a sum. -/
theorem sum_mul_coe {ι : Type} (s : Finset ι) (f : ι → EReal) (r : ℝ) (hr : 0 ≤ r) : (∑ k ∈ s, f k * (r : EReal)) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem two_mul' (y : EReal) : y + y = y * ((2 : ℝ) : EReal) := by
  induction y with
  | bot => simp [EReal.bot_mul_coe_of_pos]
  | top => simp [EReal.top_mul_coe_of_pos]
  | coe r => rw [← EReal.coe_add, ← EReal.coe_mul]; congr 1; ring

/-- The two spellings of the gradient at a row's entry. -/
theorem dx (x N : Fin 2048 → EReal) (g : EReal) (b : Fin 2048) :
    rs x * (N b - (x b * rs x) * Ideal.div (∑ k, N k * (x k * rs x)) C) + g
      = ((g + N b * rs x) + x b * Ideal.div ((∑ k, x k * N k) * (H * Ideal.div (rs x) (ms x))) C)
        + Ideal.div ((∑ k, x k * N k) * (H * Ideal.div (rs x) (ms x))) C * x b := by
  rcases ms_cases x with h | ⟨v, hv, h⟩
  · have hr : rs x = 0 := by unfold rs; rw [h]; rfl
    rw [hr, h, divC]
    have : Ideal.div 0 ⊤ = 0 := by simp [Ideal.div]
    simp [this, divC]
  · set p : ℝ := (Real.sqrt v)⁻¹ with hp
    have hp0 : 0 < p := by positivity
    have hr : rs x = (p : EReal) := by
      unfold rs; rw [h]; rw [Ideal.rsqrt_coe, if_neg (not_lt.mpr hv.le), if_neg hv.ne']
    have hs : (∑ k, N k * (x k * rs x)) = (∑ k, x k * N k) * (p : EReal) := by
      rw [hr, ← sum_mul_coe _ _ p hp0.le]
      exact Finset.sum_congr rfl fun k _ => by rw [mul_comm (x k) (N k), mul_assoc]
    have hd : Ideal.div (rs x) (ms x) = ((p * p * p : ℝ) : EReal) := by
      rw [hr, h, Ideal.div_coe hv.ne', ← EReal.coe_mul]
      congr 1
      have : p * p = 1 / v := by rw [hp, ← mul_inv, Real.mul_self_sqrt hv.le, one_div]
      rw [← this]; ring
    rw [hs, hd, hr, divC, divC, H_eq]
    generalize (∑ k, x k * N k) = S
    have key : ∀ z : EReal, (p : EReal) * (N b - z) = N b * (p : EReal) + -((p : EReal) * z) := fun z => by
      rw [sub_eq_add_neg, EReal.left_distrib_of_nonneg_of_ne_top (by exact_mod_cast hp0.le) (EReal.coe_ne_top p), mul_comm (p : EReal) (N b), mul_neg]
    rw [key]
    have e1 : -((p : EReal) * (x b * (p : EReal) * (S * (p : EReal) * ((1 / 2048 : ℝ) : EReal))))
        = (x b * S) * ((-(p * p * p) / 2048 : ℝ) : EReal) := by
      have : (p : EReal) * (x b * (p : EReal) * (S * (p : EReal) * ((1 / 2048 : ℝ) : EReal)))
          = (x b * S) * ((p * p * p / 2048 : ℝ) : EReal) := by
        rw [show (p * p * p / 2048 : ℝ) = p * p * p * (1 / 2048) by ring]
        push_cast; ac_rfl
      rw [this, ← mul_neg, ← EReal.coe_neg]; congr 2; ring
    have e2 : x b * (S * (((-(1 / 2) : ℝ) : EReal) * ((p * p * p : ℝ) : EReal)) * ((1 / 2048 : ℝ) : EReal))
        = (x b * S) * ((-(p * p * p) / 4096 : ℝ) : EReal) := by
      rw [show (-(p * p * p) / 4096 : ℝ) = -(1 / 2) * (p * p * p) * (1 / 2048) by ring, EReal.coe_mul, EReal.coe_mul]
      ac_rfl
    have e3 : (S * (((-(1 / 2) : ℝ) : EReal) * ((p * p * p : ℝ) : EReal)) * ((1 / 2048 : ℝ) : EReal)) * x b
        = (x b * S) * ((-(p * p * p) / 4096 : ℝ) : EReal) := by rw [mul_comm]; exact e2
    rw [e1, e2, e3, add_assoc _ _ (x b * S * _), two_mul', mul_assoc (x b * S), ← EReal.coe_mul,
      show -(p * p * p) / 4096 * 2 = -(p * p * p) / 2048 by ring,
      add_comm _ g, add_assoc]

end InDxMath
end
-- ==== Proof.InDxPay.lean ====
module

public import proofs.«01_k».proof.Proof.InDxFrame
public import proofs.«01_k».proof.Proof.InDxMath
public import Idealize.ShloMosaic.Lib.Pipeline.ValueKit
public import Idealize.ShloMosaic.Lib.Pointwise
public import Idealize.ShloMosaic.Lib.Claim

/-! The gradient through the in-projection and its norm: what one step of the kernel computes, element by element. -/

@[expose] public section
set_option maxRecDepth 16384
noncomputable section
namespace Cert.InDxIdeal.Hand
set_option maxHeartbeats 1000000
open InDxMath (rs)
open Cert.InDxIdeal Cert.InDxIdeal.Gen Idealize.ShloMosaic Idealize.ShloMosaic.TcCoe Idealize.SL.Sem

/-- The gradient at the norm's input, of a row: the row `x`, the gradient `d` at the modulated row, gain, scale and the residual's
    gradient. -/
def dxr (x d gn sc : Fin 2048 → EReal) (g : EReal) (b : Fin 2048) : EReal :=
  rs x * ((d b * (1 + sc b)) * gn b
    - (x b * rs x) * Ideal.div (∑ k, ((d k * (1 + sc k)) * gn k) * (x k * rs x)) (Ideal.ofBits .f32 0x45000000#32)) + g

theorem pay1_at (x0 : Vec Ideal S512x2048 .bf16) (x1 : Vec Ideal S2048x2048 .bf16) (a : Fin 512) (b : Fin 2048) :
    k0_pay1 x0 x1 (ix2 a b) = ∑ k : Fin 2048, x0 (ix2 a k) * x1 (ix2 b k) := by
  unfold_payloads; pointwise [dot_S512x2048_S2048x2048_S512x2048_1_1_0_0_n_n]
theorem pay2_at (x0 : Vec Ideal S512x2048 .bf16) (x1 : Vec Ideal S2048x2048 .bf16) (a : Fin 512) (b : Fin 2048) :
    k0_pay2 x0 x1 (ix2 a b) = 0 + ∑ k : Fin 2048, x0 (ix2 a k) * x1 (ix2 b k) := by
  rw [zero_add]; unfold k0_pay2; pointwise; rw [pay1_at]
theorem pay3_at (x0 : Vec Ideal S512x2048 .bf16) (x1 : Vec Ideal S2048x2048 .bf16) (v : Vec Ideal S512x2048 .f32) (a : Fin 512) (b : Fin 2048) :
    k0_pay3 x0 x1 v (ix2 a b) = v (ix2 a b) + ∑ k : Fin 2048, x0 (ix2 a k) * x1 (ix2 b k) := by
  unfold k0_pay3; pointwise; rw [pay1_at]
theorem pay4_at (b : Fin 2048) : k0_pay4 (F := Ideal) (ix2 0 b) = 0 := by unfold k0_pay4; pointwise
theorem pay5_at (b : Fin 2048) : k0_pay5 (F := Ideal) (ix2 0 b) = 0 := by unfold k0_pay5; pointwise
theorem pay6_at (b : Fin 2048) : k0_pay6 (F := Ideal) (ix2 0 b) = 0 := by unfold k0_pay6; pointwise
theorem pay7_at (sc : Vec Ideal S1x2048 .f32) (b : Fin 2048) : k0_pay7 sc (ix2 0 b) = 1 + sc (ix2 0 b) := by unfold k0_pay7; pointwise
theorem pay8_at (gn : Vec Ideal S1x2048 .f32) (d : Vec Ideal S256x2048 .f32) (xn : FVec Ideal S256x2048 .f32) (v : Vec Ideal S1x2048 .f32) (b : Fin 2048) :
    k0_pay8 gn d xn v (ix2 0 b) = v (ix2 0 b) + ∑ r : Fin 256, d (ix2 r b) * (xn (ix2 r b) * gn (ix2 0 b)) := by
  unfold k0_pay8; pointwise
theorem pay9_at (xn dn : FVec Ideal S256x2048 .f32) (v : Vec Ideal S1x2048 .f32) (b : Fin 2048) :
    k0_pay9 xn dn v (ix2 0 b) = v (ix2 0 b) + ∑ r : Fin 256, dn (ix2 r b) * xn (ix2 r b) := by
  unfold k0_pay9; pointwise
theorem pay10_at (x : Vec Ideal S256x2048 .f32) (r : Fin 256) : k0_pay10 x (ix2 r 0) = rs (fun k => x (ix2 r k)) := by
  unfold k0_pay10; pointwise; rfl
theorem pay11_at (x : Vec Ideal S256x2048 .f32) (r : Fin 256) (b : Fin 2048) :
    k0_pay11 x (ix2 r b) = x (ix2 r b) * rs (fun k => x (ix2 r k)) := by
  unfold k0_pay11; pointwise; rw [pay10_at]
theorem pay12_at (v : FVec Ideal S1x2048 .f32) (d : Vec Ideal S256x2048 .f32) (r : Fin 256) (b : Fin 2048) :
    k0_pay12 v d (ix2 r b) = d (ix2 r b) * v (ix2 0 b) := by
  unfold k0_pay12; pointwise
theorem pay13_at (gn sc : Vec Ideal S1x2048 .f32) (x d g : Vec Ideal S256x2048 .f32) (r : Fin 256) (b : Fin 2048) :
    k0_pay13 gn (k0_pay7 sc) x d g (ix2 r b) = dxr (fun k => x (ix2 r k)) (fun k => d (ix2 r k)) (fun k => gn (ix2 0 k)) (fun k => sc (ix2 0 k)) (g (ix2 r b)) b := by
  unfold k0_pay13; pointwise; simp only [pay10_at, pay11_at, pay12_at, pay7_at]; rfl
theorem pay14_at (d : Vec Ideal S256x2048 .f32) (v : Vec Ideal S1x2048 .f32) (b : Fin 2048) :
    k0_pay14 d v (ix2 0 b) = v (ix2 0 b) + ∑ r : Fin 256, d (ix2 r b) := by
  unfold k0_pay14; pointwise

end Cert.InDxIdeal.Hand
end
-- ==== Proof.InDxLoop.lean ====
/- The loop over the two halves of a block in `w_in_dx_prenorm_bwd`: its stores, written out. -/
module

public import proofs.«01_k».proof.Proof.InDxPay
public import Idealize.ShloMosaic.Lib.VecWindow

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Half `k`'s rows of a block of 512, -/
abbrev hrect (i : grid0.Coords) (k0_h3 : k0_cond3 i = 1#1) (k : Fin k0_t1_loop.trips) : Rect S512x2048 :=
  Rect.unit (s := S512x2048) (k0_off1 k) S256x2048.size (k0_off1_inb i k k0_h3)
/-- and what they hold. -/
abbrev half (i : grid0.Coords) (k0_h3 : k0_cond3 i = 1#1) (a : Memref sig .tc .vmem S512x2048 .f32) (X : BufTy.Contents (Elt F) a.view.ty)
    (k : Fin k0_t1_loop.trips) : Vec F S256x2048 .f32 :=
  a.view.readAt (Elt F) (hrect i k0_h3 k).toLoadRect X

/-- The two trips. -/
abbrev t0 : Fin k0_t1_loop.trips := ⟨0, by decide⟩
abbrev t1 : Fin k0_t1_loop.trips := ⟨1, by decide⟩

theorem inb1 : ∀ a, (![0, 0] : Fin 2 → ℕ) a + S1x2048.size a ≤ S1x2048.size a := by decide
/-- A row of 2048 numbers, whole, -/
abbrev rect1 : Rect S1x2048 := Rect.unit (s := S1x2048) ![0, 0] S1x2048.size inb1
/-- and what it holds. -/
abbrev row (a : Memref sig .tc .vmem S1x2048 .f32) (X : BufTy.Contents (Elt F) a.view.ty) : Vec F S1x2048 .f32 :=
  a.view.readAt (Elt F) rect1.toLoadRect X

/-- One trip's stores. -/
theorem trip_eq (𝒱 : Variants) (c : Dev nD) (bd : Option 𝒱.V) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (k0_h3 : k0_cond3 i = 1#1) (v16 : Vec F S1x2048 .f32) (v17 : Vec F S1x2048 .f32) (X_arg4 : BufTy.Contents (Elt F) arg4.view.ty) (X_arg7 : BufTy.Contents (Elt F) arg7.view.ty) (X_arg12 : BufTy.Contents (Elt F) arg12.view.ty) (k : Fin k0_t1_loop.trips) (G8 : BufTy.Contents (Elt F) arg8.view.ty) (G9 : BufTy.Contents (Elt F) arg9.view.ty) (G10 : BufTy.Contents (Elt F) arg10.view.ty) (G11 : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 k G8 G9 G10 G11 =
      ([⟨hrect i k0_h3 k, k0_pay13 v16 (k0_pay7 v17) (half i k0_h3 arg4 X_arg4 k) (half i k0_h3 arg12 X_arg12 k) (half i k0_h3 arg7 X_arg7 k)⟩],
       [⟨rect1, k0_pay14 (half i k0_h3 arg12 X_arg12 k) (row arg9 G9)⟩],
       [⟨rect1, k0_pay8 v16 (half i k0_h3 arg12 X_arg12 k) (k0_pay11 (half i k0_h3 arg4 X_arg4 k)) (row arg10 G10)⟩],
       [⟨rect1, k0_pay9 (k0_pay11 (half i k0_h3 arg4 X_arg4 k)) (k0_pay12 (k0_pay7 v17) (half i k0_h3 arg12 X_arg12 k)) (row arg11 G11)⟩]) := by
  delta tripL_k0_t1 trip_k0_t1; rfl

/-- Both trips' stores: the second half's sums are added to the first's. -/
theorem pb_two (𝒱 : Variants) (c : Dev nD) (bd : Option 𝒱.V) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (k0_h3 : k0_cond3 i = 1#1) (v16 : Vec F S1x2048 .f32) (v17 : Vec F S1x2048 .f32) (X_arg4 : BufTy.Contents (Elt F) arg4.view.ty) (X_arg7 : BufTy.Contents (Elt F) arg7.view.ty) (X_arg12 : BufTy.Contents (Elt F) arg12.view.ty) (G8 : BufTy.Contents (Elt F) arg8.view.ty) (G9 : BufTy.Contents (Elt F) arg9.view.ty) (G10 : BufTy.Contents (Elt F) arg10.view.ty) (G11 : BufTy.Contents (Elt F) arg11.view.ty) :
    pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 G8 G9 G10 G11 2 =
      ([⟨hrect i k0_h3 t1, k0_pay13 v16 (k0_pay7 v17) (half i k0_h3 arg4 X_arg4 t1) (half i k0_h3 arg12 X_arg12 t1) (half i k0_h3 arg7 X_arg7 t1)⟩,
        ⟨hrect i k0_h3 t0, k0_pay13 v16 (k0_pay7 v17) (half i k0_h3 arg4 X_arg4 t0) (half i k0_h3 arg12 X_arg12 t0) (half i k0_h3 arg7 X_arg7 t0)⟩],
       [⟨rect1, k0_pay14 (half i k0_h3 arg12 X_arg12 t1) (k0_pay14 (half i k0_h3 arg12 X_arg12 t0) (row arg9 G9))⟩,
        ⟨rect1, k0_pay14 (half i k0_h3 arg12 X_arg12 t0) (row arg9 G9)⟩],
       [⟨rect1, k0_pay8 v16 (half i k0_h3 arg12 X_arg12 t1) (k0_pay11 (half i k0_h3 arg4 X_arg4 t1)) (k0_pay8 v16 (half i k0_h3 arg12 X_arg12 t0) (k0_pay11 (half i k0_h3 arg4 X_arg4 t0)) (row arg10 G10))⟩,
        ⟨rect1, k0_pay8 v16 (half i k0_h3 arg12 X_arg12 t0) (k0_pay11 (half i k0_h3 arg4 X_arg4 t0)) (row arg10 G10)⟩],
       [⟨rect1, k0_pay9 (k0_pay11 (half i k0_h3 arg4 X_arg4 t1)) (k0_pay12 (k0_pay7 v17) (half i k0_h3 arg12 X_arg12 t1)) (k0_pay9 (k0_pay11 (half i k0_h3 arg4 X_arg4 t0)) (k0_pay12 (k0_pay7 v17) (half i k0_h3 arg12 X_arg12 t0)) (row arg11 G11))⟩,
        ⟨rect1, k0_pay9 (k0_pay11 (half i k0_h3 arg4 X_arg4 t0)) (k0_pay12 (k0_pay7 v17) (half i k0_h3 arg12 X_arg12 t0)) (row arg11 G11)⟩]) := by
  have e0 := pb_k0_t1_succ (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 G8 G9 G10 G11 t0
  have e1 := pb_k0_t1_succ (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 G8 G9 G10 G11 t1
  have z : pb_k0_t1 (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12 G8 G9 G10 G11 0 = ([], [], [], []) := rfl
  have q := trip_eq (F := F) 𝒱 c bd i arg2 harg2 arg3 harg3 arg4 harg4 arg5 harg5 arg6 harg6 arg7 harg7 arg8 harg8 arg9 harg9 arg10 harg10 arg11 harg11 arg12 harg12 k0_h3 v16 v17 X_arg4 X_arg7 X_arg12
  simp only [Prod.mk.injEq] at q
  dsimp only at e0 e1
  rw [(q t0 _ _ _ _).1, (q t0 _ _ _ _).2.1, (q t0 _ _ _ _).2.2.1, (q t0 _ _ _ _).2.2.2] at e0
  rw [(q t1 _ _ _ _).1, (q t1 _ _ _ _).2.1, (q t1 _ _ _ _).2.2.1, (q t1 _ _ _ _).2.2.2] at e1
  simp only [show (t0 : ℕ) = 0 from rfl, show (t1 : ℕ) = 1 from rfl, Nat.zero_add, Nat.reduceAdd, z, View.writes_nil, List.append_nil] at e0 e1
  rw [e0] at e1
  refine e1.trans ?_
  simp only [row, View.readAt_writes_full, List.singleton_append]

end Cert.InDxIdeal.Body

end
-- ==== Proof.InDxOut.lean ====
module

public import proofs.«01_k».proof.Proof.InDxLoop

/-! What a block's last step leaves in the four results and in the accumulator, over the blocks it read. -/

@[expose] public section
set_option maxRecDepth 16384
noncomputable section
namespace Cert.InDxIdeal.Body
set_option maxHeartbeats 1000000
open Cert.InDxIdeal Cert.InDxIdeal.Gen Idealize.ShloMosaic Idealize.ShloMosaic.TcCoe Idealize.ShloMosaic.Tactic Idealize.SL.Sem
variable {F : FTy → Type} [FloatOps F]

/-- Row `r` of half `k` of a block of 512 rows, -/
abbrev hrow (k : Fin 2) (r : Fin 256) : Fin 512 := ⟨256 * k.val + r.val, by omega⟩
/-- and the half itself. -/
def hf (k : Fin 2) (X : Vec F S512x2048 .f32) : Vec F S256x2048 .f32 := fun j => X (ix2 (hrow k (j 0)) (j 1))

theorem half_0 (i : grid0.Coords) (h) (a : Memref sig .tc .vmem S512x2048 .f32) (X : BufTy.Contents (Elt F) a.view.ty) :
    half i h a X t0 = hf 0 (a.view.read (Elt F) X) := by
  funext j
  show a.view.read (Elt F) X ((hrect i h t0).emb j) = _
  exact congrArg _ (by funext q; apply Fin.ext; fin_cases q <;> (show _ + 1 * _ = _; simp [k0_off1]) <;> rfl)
theorem half_1 (i : grid0.Coords) (h) (a : Memref sig .tc .vmem S512x2048 .f32) (X : BufTy.Contents (Elt F) a.view.ty) :
    half i h a X t1 = hf 1 (a.view.read (Elt F) X) := by
  funext j
  show a.view.read (Elt F) X ((hrect i h t1).emb j) = _
  exact congrArg _ (by funext q; apply Fin.ext; fin_cases q <;> (show _ + 1 * _ = _; simp [k0_off1]) <;> rfl)

/-- Reading the whole of a block back. -/
theorem rdA (a : Memref sig .tc .vmem S512x2048 .bf16) (h : a.IsWhole) (x : Vec F S512x2048 .bf16) (inb) :
    View.readAt (Elt F) a.view (Rect.unit (s := S512x2048) ![0, 0] ![512, 2048] inb).toLoadRect (h.unread x) = x :=
  (View.readAt_full a.view _ inb).trans (h.read_unread x)
theorem rdB (a : Memref sig .tc .vmem S2048x2048 .bf16) (h : a.IsWhole) (x : Vec F S2048x2048 .bf16) (inb) :
    View.readAt (Elt F) a.view (Rect.unit (s := S2048x2048) ![0, 0] ![2048, 2048] inb).toLoadRect (h.unread x) = x :=
  (View.readAt_full a.view _ inb).trans (h.read_unread x)
theorem rdC (a : Memref sig .tc .vmem S512x2048 .f32) (h : a.IsWhole) (x : Vec F S512x2048 .f32) (inb) :
    View.readAt (Elt F) a.view (Rect.unit (s := S512x2048) ![0, 0] ![512, 2048] inb).toLoadRect (h.unread x) = x :=
  (View.readAt_full a.view _ inb).trans (h.read_unread x)
theorem rdR (a : Memref sig .tc .vmem S1x2048 .f32) (h : a.IsWhole) (x : Vec F S1x2048 .f32) (inb) :
    View.readAt (Elt F) a.view (Rect.unit (s := S1x2048) ![0, 0] ![1, 2048] inb).toLoadRect (h.unread x) = x :=
  (View.readAt_full a.view _ inb).trans (h.read_unread x)
theorem rdS (a : Memref sig .tc .vmem S1x2048 .f32) (h : a.IsWhole) (x : Vec F S1x2048 .f32) :
    View.readAt (Elt F) a.view rect1.toLoadRect (h.unread x) = x := rdR a h x inb1
/-- A row just stored is read back. -/
theorem rdW (a : Memref sig .tc .vmem S1x2048 .f32) (f : BufTy.Contents (Elt F) a.view.ty) (w : Vec F S1x2048 .f32) (inb') :
    View.readAt (Elt F) a.view rect1.toLoadRect
      (a.view.writes (Elt F) f [⟨Rect.unit (s := S1x2048) ![0, 0] ![1, 2048] inb', w⟩]) = w :=
  View.readAt_writes_full a.view f inb1 inb' w []
/-- A half of a block just stored. -/
theorem half_w0 (i : grid0.Coords) (h) (a : Memref sig .tc .vmem S512x2048 .f32) (f : BufTy.Contents (Elt F) a.view.ty) (w : Vec F S512x2048 .f32) (inb) :
    half i h a (a.view.writes (Elt F) f [⟨Rect.unit (s := S512x2048) ![0, 0] ![512, 2048] inb, w⟩]) t0 = hf 0 w :=
  (half_0 i h a _).trans (congrArg (hf 0) (View.read_writes_full a.view f inb w []))
theorem half_w1 (i : grid0.Coords) (h) (a : Memref sig .tc .vmem S512x2048 .f32) (f : BufTy.Contents (Elt F) a.view.ty) (w : Vec F S512x2048 .f32) (inb) :
    half i h a (a.view.writes (Elt F) f [⟨Rect.unit (s := S512x2048) ![0, 0] ![512, 2048] inb, w⟩]) t1 = hf 1 w :=
  (half_1 i h a _).trans (congrArg (hf 1) (View.read_writes_full a.view f inb w []))
theorem half_u0 (i : grid0.Coords) (h) (a : Memref sig .tc .vmem S512x2048 .f32) (ha : a.IsWhole) (x : Vec F S512x2048 .f32) :
    half i h a (ha.unread x) t0 = hf 0 x := (half_0 i h a _).trans (congrArg (hf 0) (ha.read_unread x))
theorem half_u1 (i : grid0.Coords) (h) (a : Memref sig .tc .vmem S512x2048 .f32) (ha : a.IsWhole) (x : Vec F S512x2048 .f32) :
    half i h a (ha.unread x) t1 = hf 1 x := (half_1 i h a _).trans (congrArg (hf 1) (ha.read_unread x))
/-- The last store of a whole row, or of a whole block, is what is left. -/
theorem canon_row (w : Vec F S1x2048 .f32) (L : List (View.Piece (Elt F) S1x2048 .f32)) :
    View.canon ((⟨rect1, w⟩ : View.Piece (Elt F) S1x2048 .f32) :: L) = w :=
  View.canon_cons_unit_lit inb1 w L (by decide)
theorem canon_blk (w : Vec F S512x2048 .f32) (inb) (L : List (View.Piece (Elt F) S512x2048 .f32)) :
    View.canon ((⟨Rect.unit (s := S512x2048) ![0, 0] ![512, 2048] inb, w⟩ : View.Piece (Elt F) S512x2048 .f32) :: L) = w :=
  View.canon_cons_unit_lit inb w L (by decide)
/-- Both halves stored: row `r` of half `k` is from that half's store. -/
theorem canon_halves (i : grid0.Coords) (h) (w1 w0 : Vec F S256x2048 .f32) (k : Fin 2) (r : Fin 256) (b : Fin 2048) :
    View.canon [(⟨hrect i h t1, w1⟩ : View.Piece (Elt F) S512x2048 .f32), ⟨hrect i h t0, w0⟩] (ix2 (hrow k r) b)
      = (if k = 1 then w1 else w0) (ix2 r b) := by
  have o0 : k0_off1 t0 = ![0, 0] := rfl
  have o1 : k0_off1 t1 = ![256, 0] := rfl
  have e1 : (hrect i h t1).emb (ix2 r b) = ix2 (hrow 1 r) b := by
    funext q; apply Fin.ext; fin_cases q <;> (show (hrect i h t1).off _ + 1 * _ = _; rw [show (hrect i h t1).off = ![256, 0] from o1]; simp)
  have e0 : (hrect i h t0).emb (ix2 r b) = ix2 (hrow 0 r) b := by
    funext q; apply Fin.ext; fin_cases q <;> (show (hrect i h t0).off _ + 1 * _ = _; rw [show (hrect i h t0).off = ![0, 0] from o0]; simp)
  fin_cases k
  · show View.canon _ (ix2 (hrow 0 r) b) = w0 (ix2 r b)
    rw [View.canon_cons_of_not_mem, ← e0]
    · exact View.canon_cons_emb _ _ _ _
    · show _ ∉ (hrect i h t1).set
      rw [Rect.mem_set_unit]
      intro hall
      have := hall 0
      rw [o1] at this
      have hr := r.isLt
      simp at this
      omega
  · show View.canon _ (ix2 (hrow 1 r) b) = w1 (ix2 r b)
    rw [← e1]
    exact View.canon_cons_emb _ _ _ _

/-- The last step of the first block of rows. -/
theorem out_C (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xs0 : Vec F S512x2048 .f32) :
    sout0_C_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 = k0_pay3 x0 x1 xs0
    ∧ out0_C_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 = k0_pay14 (hf 1 (k0_pay3 x0 x1 xs0)) (k0_pay14 (hf 0 (k0_pay3 x0 x1 xs0)) k0_pay4)
    ∧ out0_C_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 = k0_pay8 x3 (hf 1 (k0_pay3 x0 x1 xs0)) (k0_pay11 (hf 1 x2)) (k0_pay8 x3 (hf 0 (k0_pay3 x0 x1 xs0)) (k0_pay11 (hf 0 x2)) k0_pay5)
    ∧ out0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 = k0_pay9 (k0_pay11 (hf 1 x2)) (k0_pay12 (k0_pay7 x4) (hf 1 (k0_pay3 x0 x1 xs0))) (k0_pay9 (k0_pay11 (hf 0 x2)) (k0_pay12 (k0_pay7 x4) (hf 0 (k0_pay3 x0 x1 xs0))) k0_pay6)
    ∧ ∀ (k : Fin 2) (r : Fin 256) (b : Fin 2048), out0_C_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 (ix2 (hrow k r) b)
      = k0_pay13 x3 (k0_pay7 x4) (hf k x2) (hf k (k0_pay3 x0 x1 xs0)) (hf k x5) (ix2 r b) := by
  refine ⟨?_, ?_, ?_, ?_, fun k r b => ?_⟩
  ·
    unfold sout0_C_0
    rw [View.read_writes_junk_eq_canon]
    unfold kernelRun0_C
    dsimp only
    sl_unfold_words
    simp only [List.cons_append, canon_row, canon_blk, row, rdA, rdB, rdC, rdR, rdS, rdW, half_w0, half_w1, half_u0, half_u1]
  ·
    unfold out0_C_7
    rw [View.read_writes_junk_eq_canon]
    unfold kernelRun0_C
    dsimp only
    sl_unfold_words
    rw [show Scf.trips k0_t1_loop.lb k0_t1_loop.ub k0_t1_loop.st = 2 from rfl, pb_two]
    dsimp only
    simp only [List.cons_append, canon_row, canon_blk, row, rdA, rdB, rdC, rdR, rdS, rdW, half_w0, half_w1, half_u0, half_u1]
  ·
    unfold out0_C_8
    rw [View.read_writes_junk_eq_canon]
    unfold kernelRun0_C
    dsimp only
    sl_unfold_words
    rw [show Scf.trips k0_t1_loop.lb k0_t1_loop.ub k0_t1_loop.st = 2 from rfl, pb_two]
    dsimp only
    simp only [List.cons_append, canon_row, canon_blk, row, rdA, rdB, rdC, rdR, rdS, rdW, half_w0, half_w1, half_u0, half_u1]
  ·
    unfold out0_C_9
    rw [View.read_writes_junk_eq_canon]
    unfold kernelRun0_C
    dsimp only
    sl_unfold_words
    rw [show Scf.trips k0_t1_loop.lb k0_t1_loop.ub k0_t1_loop.st = 2 from rfl, pb_two]
    dsimp only
    simp only [List.cons_append, canon_row, canon_blk, row, rdA, rdB, rdC, rdR, rdS, rdW, half_w0, half_w1, half_u0, half_u1]
  ·
    unfold out0_C_6
    rw [View.read_writes_junk_eq_canon]
    unfold kernelRun0_C
    dsimp only
    sl_unfold_words
    rw [show Scf.trips k0_t1_loop.lb k0_t1_loop.ub k0_t1_loop.st = 2 from rfl, pb_two]
    dsimp only
    rw [canon_halves]
    simp only [List.cons_append, canon_row, canon_blk, row, rdA, rdB, rdC, rdR, rdS, rdW, half_w0, half_w1, half_u0, half_u1]
    fin_cases k <;> rfl

/-- The last step of a later block of rows. -/
theorem out_D (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (hc0 : ¬cond0_0 i) (hc1 : cond0_1 i) (hc2 : cond0_2 i) (hc3 : ¬cond0_3 i)
    (x0 : Vec F S512x2048 .bf16) (x1 : Vec F S2048x2048 .bf16) (x2 : Vec F S512x2048 .f32) (x3 : Vec F S1x2048 .f32) (x4 : Vec F S1x2048 .f32) (x5 : Vec F S512x2048 .f32) (xo7 : Vec F S1x2048 .f32) (xo8 : Vec F S1x2048 .f32) (xo9 : Vec F S1x2048 .f32) (xs0 : Vec F S512x2048 .f32) :
    sout0_D_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0 = k0_pay3 x0 x1 xs0
    ∧ out0_D_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0 = k0_pay14 (hf 1 (k0_pay3 x0 x1 xs0)) (k0_pay14 (hf 0 (k0_pay3 x0 x1 xs0)) xo7)
    ∧ out0_D_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0 = k0_pay8 x3 (hf 1 (k0_pay3 x0 x1 xs0)) (k0_pay11 (hf 1 x2)) (k0_pay8 x3 (hf 0 (k0_pay3 x0 x1 xs0)) (k0_pay11 (hf 0 x2)) xo8)
    ∧ out0_D_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0 = k0_pay9 (k0_pay11 (hf 1 x2)) (k0_pay12 (k0_pay7 x4) (hf 1 (k0_pay3 x0 x1 xs0))) (k0_pay9 (k0_pay11 (hf 0 x2)) (k0_pay12 (k0_pay7 x4) (hf 0 (k0_pay3 x0 x1 xs0))) xo9)
    ∧ ∀ (k : Fin 2) (r : Fin 256) (b : Fin 2048), out0_D_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xo7 xo8 xo9 xs0 (ix2 (hrow k r) b)
      = k0_pay13 x3 (k0_pay7 x4) (hf k x2) (hf k (k0_pay3 x0 x1 xs0)) (hf k x5) (ix2 r b) := by
  refine ⟨?_, ?_, ?_, ?_, fun k r b => ?_⟩
  ·
    unfold sout0_D_0
    rw [View.read_writes_junk_eq_canon]
    unfold kernelRun0_D
    dsimp only
    sl_unfold_words
    simp only [List.cons_append, canon_row, canon_blk, row, rdA, rdB, rdC, rdR, rdS, rdW, half_w0, half_w1, half_u0, half_u1]
  ·
    unfold out0_D_7
    rw [View.read_writes_junk_eq_canon]
    unfold kernelRun0_D
    dsimp only
    sl_unfold_words
    rw [show Scf.trips k0_t1_loop.lb k0_t1_loop.ub k0_t1_loop.st = 2 from rfl, pb_two]
    dsimp only
    simp only [List.cons_append, canon_row, canon_blk, row, rdA, rdB, rdC, rdR, rdS, rdW, half_w0, half_w1, half_u0, half_u1]
  ·
    unfold out0_D_8
    rw [View.read_writes_junk_eq_canon]
    unfold kernelRun0_D
    dsimp only
    sl_unfold_words
    rw [show Scf.trips k0_t1_loop.lb k0_t1_loop.ub k0_t1_loop.st = 2 from rfl, pb_two]
    dsimp only
    simp only [List.cons_append, canon_row, canon_blk, row, rdA, rdB, rdC, rdR, rdS, rdW, half_w0, half_w1, half_u0, half_u1]
  ·
    unfold out0_D_9
    rw [View.read_writes_junk_eq_canon]
    unfold kernelRun0_D
    dsimp only
    sl_unfold_words
    rw [show Scf.trips k0_t1_loop.lb k0_t1_loop.ub k0_t1_loop.st = 2 from rfl, pb_two]
    dsimp only
    simp only [List.cons_append, canon_row, canon_blk, row, rdA, rdB, rdC, rdR, rdS, rdW, half_w0, half_w1, half_u0, half_u1]
  ·
    unfold out0_D_6
    rw [View.read_writes_junk_eq_canon]
    unfold kernelRun0_D
    dsimp only
    sl_unfold_words
    rw [show Scf.trips k0_t1_loop.lb k0_t1_loop.ub k0_t1_loop.st = 2 from rfl, pb_two]
    dsimp only
    rw [canon_halves]
    simp only [List.cons_append, canon_row, canon_blk, row, rdA, rdB, rdC, rdR, rdS, rdW, half_w0, half_w1, half_u0, half_u1]
    fin_cases k <;> rfl

end Cert.InDxIdeal.Body
end
-- ==== Proof.InDxGrid.lean ====
module

public import proofs.«01_k».proof.Proof.InDxOut

/-! What the grid's points leave in the accumulator and in the four results. -/

@[expose] public section
set_option maxRecDepth 16384
noncomputable section
namespace Cert.InDxIdeal.Hand
set_option maxHeartbeats 2000000
open InDxMath (rs)
open Cert.InDxIdeal Cert.InDxIdeal.Gen Cert.InDxIdeal.Body Idealize.ShloMosaic Idealize.ShloMosaic.TcCoe Idealize.SL.Sem
open Idealize.ShloMosaic.Pipeline (Dat)
variable (m : (ℓ : Loc nD τ sig) → Buf (Elt Ideal) ℓ)

/-- A block's normalised row. -/
def xnb (c : Dev nD) (t : Fin cfg0.N) (r : Fin 512) (b : Fin 2048) : EReal :=
  (show Vec Ideal S512x2048 .f32 from iblk m c 2 t) (ix2 r b) * rs (fun x => (show Vec Ideal S512x2048 .f32 from iblk m c 2 t) (ix2 r x))

/-- The last step of the first block of rows starts the three sums. -/
theorem last_C (c : Dev nD) (t : Fin cfg0.N) (h2 : t.val % 5 = 4) (h3 : t.val < 5) :
    (outsAt0 m c t.val t.isLt).2.2.2.2 = k0_pay3 (iblk m c 0 t) (iblk m c 1 t) (outsAt0 m c (t.val - 1) (Nat.lt_of_le_of_lt (Nat.sub_le _ _) t.isLt)).2.2.2.2
    ∧ (∀ b : Fin 2048, (outsAt0 m c t.val t.isLt).2.1 (ix2 0 b) = 0 + ∑ k : Fin 2, ∑ r : Fin 256, (outsAt0 m c t.val t.isLt).2.2.2.2 (ix2 (hrow k r) b))
    ∧ (∀ b : Fin 2048, (outsAt0 m c t.val t.isLt).2.2.1 (ix2 0 b) = 0 + ∑ k : Fin 2, ∑ r : Fin 256,
        (outsAt0 m c t.val t.isLt).2.2.2.2 (ix2 (hrow k r) b) * (xnb m c t (hrow k r) b * (show Vec Ideal S1x2048 .f32 from iblk m c 3 t) (ix2 0 b)))
    ∧ (∀ b : Fin 2048, (outsAt0 m c t.val t.isLt).2.2.2.1 (ix2 0 b) = 0 + ∑ k : Fin 2, ∑ r : Fin 256,
        ((outsAt0 m c t.val t.isLt).2.2.2.2 (ix2 (hrow k r) b) * (1 + (show Vec Ideal S1x2048 .f32 from iblk m c 4 t) (ix2 0 b))) * xnb m c t (hrow k r) b)
    ∧ ∀ (k : Fin 2) (r : Fin 256) (b : Fin 2048), (outsAt0 m c t.val t.isLt).1 (ix2 (hrow k r) b)
      = dxr (fun x => (show Vec Ideal S512x2048 .f32 from iblk m c 2 t) (ix2 (hrow k r) x)) (fun x => (outsAt0 m c t.val t.isLt).2.2.2.2 (ix2 (hrow k r) x))
          (fun x => (show Vec Ideal S1x2048 .f32 from iblk m c 3 t) (ix2 0 x)) (fun x => (show Vec Ideal S1x2048 .f32 from iblk m c 4 t) (ix2 0 x))
          ((show Vec Ideal S512x2048 .f32 from iblk m c 5 t) (ix2 (hrow k r) b)) b := by
  have h0 : ¬ t.val % 5 = 0 := by omega
  have h1 : 1 ≤ t.val % 5 := by omega
  obtain ⟨q, q7, q8, q9, q6⟩ := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2
  rw [outsAt0_C m c t h0 h1 h2 h3]
  dsimp only
  rw [q]
  generalize k0_pay3 (iblk m c 0 t) (iblk m c 1 t) (outsAt0 m c (t.val - 1) (Nat.lt_of_le_of_lt (Nat.sub_le _ _) t.isLt)).2.2.2.2 = A at q7 q8 q9 q6 ⊢
  refine ⟨rfl, fun b => ?_, fun b => ?_, fun b => ?_, fun k r b => ?_⟩
  · rw [q7, pay14_at, pay14_at, Fin.sum_univ_two, ← add_assoc]; rw [pay4_at]; rfl
  · rw [q8, pay8_at, pay8_at, Fin.sum_univ_two, ← add_assoc]; rw [pay5_at]; simp only [pay11_at]; rfl
  · rw [q9, pay9_at, pay9_at, Fin.sum_univ_two, ← add_assoc]; rw [pay6_at]; simp only [pay11_at, pay12_at, pay7_at]; rfl
  · rw [q6, pay13_at]; rfl

/-- The last step of a later block adds to them. -/
theorem last_D (c : Dev nD) (t : Fin cfg0.N) (h2 : t.val % 5 = 4) (h3 : ¬ t.val < 5) :
    (outsAt0 m c t.val t.isLt).2.2.2.2 = k0_pay3 (iblk m c 0 t) (iblk m c 1 t) (outsAt0 m c (t.val - 1) (Nat.lt_of_le_of_lt (Nat.sub_le _ _) t.isLt)).2.2.2.2
    ∧ (∀ b : Fin 2048, (outsAt0 m c t.val t.isLt).2.1 (ix2 0 b) = (outsAt0 m c (t.val - 1) (Nat.lt_of_le_of_lt (Nat.sub_le _ _) t.isLt)).2.1 (ix2 0 b) + ∑ k : Fin 2, ∑ r : Fin 256, (outsAt0 m c t.val t.isLt).2.2.2.2 (ix2 (hrow k r) b))
    ∧ (∀ b : Fin 2048, (outsAt0 m c t.val t.isLt).2.2.1 (ix2 0 b) = (outsAt0 m c (t.val - 1) (Nat.lt_of_le_of_lt (Nat.sub_le _ _) t.isLt)).2.2.1 (ix2 0 b) + ∑ k : Fin 2, ∑ r : Fin 256,
        (outsAt0 m c t.val t.isLt).2.2.2.2 (ix2 (hrow k r) b) * (xnb m c t (hrow k r) b * (show Vec Ideal S1x2048 .f32 from iblk m c 3 t) (ix2 0 b)))
    ∧ (∀ b : Fin 2048, (outsAt0 m c t.val t.isLt).2.2.2.1 (ix2 0 b) = (outsAt0 m c (t.val - 1) (Nat.lt_of_le_of_lt (Nat.sub_le _ _) t.isLt)).2.2.2.1 (ix2 0 b) + ∑ k : Fin 2, ∑ r : Fin 256,
        ((outsAt0 m c t.val t.isLt).2.2.2.2 (ix2 (hrow k r) b) * (1 + (show Vec Ideal S1x2048 .f32 from iblk m c 4 t) (ix2 0 b))) * xnb m c t (hrow k r) b)
    ∧ ∀ (k : Fin 2) (r : Fin 256) (b : Fin 2048), (outsAt0 m c t.val t.isLt).1 (ix2 (hrow k r) b)
      = dxr (fun x => (show Vec Ideal S512x2048 .f32 from iblk m c 2 t) (ix2 (hrow k r) x)) (fun x => (outsAt0 m c t.val t.isLt).2.2.2.2 (ix2 (hrow k r) x))
          (fun x => (show Vec Ideal S1x2048 .f32 from iblk m c 3 t) (ix2 0 x)) (fun x => (show Vec Ideal S1x2048 .f32 from iblk m c 4 t) (ix2 0 x))
          ((show Vec Ideal S512x2048 .f32 from iblk m c 5 t) (ix2 (hrow k r) b)) b := by
  have h0 : ¬ t.val % 5 = 0 := by omega
  have h1 : 1 ≤ t.val % 5 := by omega
  obtain ⟨q, q7, q8, q9, q6⟩ := out_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [outsAt0_D m c t h0 h1 h2 h3]
  dsimp only
  rw [q]
  generalize k0_pay3 (iblk m c 0 t) (iblk m c 1 t) (outsAt0 m c (t.val - 1) (Nat.lt_of_le_of_lt (Nat.sub_le _ _) t.isLt)).2.2.2.2 = A at q7 q8 q9 q6 ⊢
  refine ⟨rfl, fun b => ?_, fun b => ?_, fun b => ?_, fun k r b => ?_⟩
  · rw [q7, pay14_at, pay14_at, Fin.sum_univ_two, ← add_assoc]; rfl
  · rw [q8, pay8_at, pay8_at, Fin.sum_univ_two, ← add_assoc]; simp only [pay11_at]; rfl
  · rw [q9, pay9_at, pay9_at, Fin.sum_univ_two, ← add_assoc]; simp only [pay11_at, pay12_at, pay7_at]; rfl
  · rw [q6, pay13_at]; rfl

end Cert.InDxIdeal.Hand
end
-- ==== Proof.InDxRef.lean ====
module

public import proofs.«01_k».proof.Proof.Gen.InDxRefIdeal.Run
public import proofs.«01_k».proof.Proof.Gen.InDxRefIdeal.Read
public import proofs.«01_k».proof.Defs
public import proofs.«01_k».proof.Proof.InDxMath
public import Idealize.ShloMosaic.Lib.Pipeline.ValueKit
public import Idealize.ShloMosaic.Lib.Pointwise
public import Idealize.ShloMosaic.Lib.Claim

/-! The reference's gradients through the in-projection and its norm, entry by entry. -/

@[expose] public section
set_option maxRecDepth 16384
noncomputable section
namespace Cert.InDxRefIdeal.Hand
set_option maxHeartbeats 1000000
open Cert.InDxRefIdeal Cert.InDxRefIdeal.Gen Cert.InDxRefIdeal.Read Idealize.ShloMosaic Idealize.ShloMosaic.TcCoe Idealize.SL.Sem
open InDxMath (rs ms)

variable (X0 : FVec Ideal S8192x10240 .bf16) (X1 : FVec Ideal S2048x10240 .f32) (X2 : FVec Ideal S8192x2048 .f32)
  (X3 X4 : FVec Ideal S1x2048 .f32) (X5 : FVec Ideal S8192x2048 .f32)

/-- The gradient at the modulated rows, and the normalised rows. -/
def D (r : Fin 8192) (b : Fin 2048) : EReal := ∑ n : Fin 10240, X0 (ix2 r n) * X1 (ix2 b n)
def XN (r : Fin 8192) (b : Fin 2048) : EReal := X2 (ix2 r b) * rs (fun k => X2 (ix2 r k))

theorem v7_at (r : Fin 8192) : val_main_v7 (F := Ideal) X2 (ix2 r 0) = ms (fun k => X2 (ix2 r k)) := by
  rw [val_main_v7_apply, val_main_v5_apply, val_main_v3_apply, val_main_v2_apply, val_main_v4_apply, val_main_v6_apply,
    val_main_cst_0_apply, val_main_cst_1_apply, val_main_cst_2_apply]
  simp only [Ideal.ofBits_def, Ideal.hostDivf_def, Ideal.addf_def, Ideal.ofBits_zero_f32, zero_add, val_main_v1_apply, Ideal.mulf_def]
  unfold ms
  refine congrArg (Ideal.div · _ + _) (Finset.sum_congr rfl fun k _ => ?_)
  refine congrArg₂ (· * ·) (congrArg X2 ?_) (congrArg X2 ?_) <;> (funext q; fin_cases q <;> rfl)
theorem v8_at (r : Fin 8192) : val_main_v8 (F := Ideal) X2 (ix2 r 0) = rs (fun k => X2 (ix2 r k)) := by
  rw [val_main_v8_apply, v7_at]; rfl
theorem v13_at (r : Fin 8192) (b : Fin 2048) : val_main_v13 (F := Ideal) X2 (ix2 r b) = XN X2 r b := by
  rw [val_main_v13_apply, val_main_v12_apply, show idx_main_v12 (ix2 r b) = ix2 r 0 from by funext q; fin_cases q <;> rfl, v8_at]; rfl
theorem v24_at (r : Fin 8192) (b : Fin 2048) : val_main_v24 (F := Ideal) X0 X1 (ix2 r b) = D X0 X1 r b := by
  rw [val_main_v24_apply]
  refine Finset.sum_congr rfl fun k _ => ?_
  refine congrArg₂ (· * ·) (congrArg X0 ?_) (congrArg X1 ?_) <;> (funext q; fin_cases q <;> rfl)
theorem v17_at (b : Fin 2048) : val_main_v17 (F := Ideal) X4 (ix2 0 b) = 1 + X4 (ix2 0 b) := by
  rw [val_main_v17_apply, val_main_v16_apply, val_main_cst_4_apply]
  simp only [Ideal.ofBits_def, Ideal.addf_def, Ideal.ofBits_one_f32]
theorem v31_at (r : Fin 8192) (b : Fin 2048) : val_main_v31 (F := Ideal) X0 X1 X4 (ix2 r b) = D X0 X1 r b * (1 + X4 (ix2 0 b)) := by
  rw [val_main_v31_apply, v24_at, val_main_v30_apply, show idx_main_v30 (ix2 r b) = ix2 0 b from by funext q; fin_cases q <;> rfl, v17_at]; rfl
theorem v15_at (r : Fin 8192) (b : Fin 2048) : val_main_v15 (F := Ideal) X2 X3 (ix2 r b) = XN X2 r b * X3 (ix2 0 b) := by
  rw [val_main_v15_apply, v13_at, val_main_v14_apply, show idx_main_v14 (ix2 r b) = ix2 0 b from by funext q; fin_cases q <;> rfl]; rfl
theorem v36_at (r : Fin 8192) (b : Fin 2048) :
    val_main_v36 (F := Ideal) X0 X1 X3 X4 (ix2 r b) = (D X0 X1 r b * (1 + X4 (ix2 0 b))) * X3 (ix2 0 b) := by
  rw [val_main_v36_apply, v31_at, val_main_v35_apply, show idx_main_v35 (ix2 r b) = ix2 0 b from by funext q; fin_cases q <;> rfl]; rfl

/-- The shift's, the scale's and the gain's gradients. -/
theorem dsh_at (b : Fin 2048) : val_main_v26 (F := Ideal) X0 X1 (ix2 0 b) = ∑ r : Fin 8192, D X0 X1 r b := by
  rw [val_main_v26_apply, val_main_v25_apply, val_main_cst_5_apply, Ideal.ofBits_def, Ideal.ofBits_zero_f32, zero_add]
  refine Finset.sum_congr rfl fun r _ => ?_
  have e : idx_main_v25 (idx_main_v26 (ix2 0 b)) r = ix2 r b := by
    funext q; fin_cases q
    · rfl
    · exact Fin.ext (by show 0 * 2048 + b.val = b.val; omega)
  rw [e, v24_at]
theorem dsc_at (b : Fin 2048) : val_main_v29 (F := Ideal) X0 X1 X2 X3 (ix2 0 b) = ∑ r : Fin 8192, D X0 X1 r b * (XN X2 r b * X3 (ix2 0 b)) := by
  rw [val_main_v29_apply, val_main_v28_apply, val_main_cst_6_apply, Ideal.ofBits_def, Ideal.ofBits_zero_f32, zero_add]
  refine Finset.sum_congr rfl fun r _ => ?_
  have e : idx_main_v28 (idx_main_v29 (ix2 0 b)) r = ix2 r b := by
    funext q; fin_cases q
    · rfl
    · exact Fin.ext (by show 0 * 2048 + b.val = b.val; omega)
  rw [e, val_main_v27_apply, v15_at, v24_at]
  exact mul_comm _ _
theorem dg_at (b : Fin 2048) : val_main_v34 (F := Ideal) X0 X1 X2 X4 (ix2 0 b) = ∑ r : Fin 8192, (D X0 X1 r b * (1 + X4 (ix2 0 b))) * XN X2 r b := by
  rw [val_main_v34_apply, val_main_v33_apply, val_main_cst_7_apply, Ideal.ofBits_def, Ideal.ofBits_zero_f32, zero_add]
  refine Finset.sum_congr rfl fun r _ => ?_
  have e : idx_main_v33 (idx_main_v34 (ix2 0 b)) r = ix2 r b := by
    funext q; fin_cases q
    · rfl
    · exact Fin.ext (by show 0 * 2048 + b.val = b.val; omega)
  rw [e, val_main_v32_apply, v13_at, v31_at]
  exact mul_comm _ _

theorem v38_at (r : Fin 8192) (i : S8192.Idx) (hi : i 0 = r) : val_main_v38 (F := Ideal) X0 X1 X2 X3 X4 i
    = ∑ k, X2 (ix2 r k) * ((D X0 X1 r k * (1 + X4 (ix2 0 k))) * X3 (ix2 0 k)) := by
  rw [val_main_v38_apply, val_main_cst_8_apply, Ideal.ofBits_def, Ideal.ofBits_zero_f32, zero_add]
  refine Finset.sum_congr rfl fun k _ => ?_
  have e : idx_main_v38 i k = ix2 r k := by
    funext q; fin_cases q
    · exact hi
    · rfl
  rw [e, val_main_v37_apply, v36_at]; rfl
theorem v11_at (r : Fin 8192) : val_main_v11 (F := Ideal) X2 (ix2 r 0)
    = InDxMath.H * Ideal.div (rs (fun k => X2 (ix2 r k))) (ms (fun k => X2 (ix2 r k))) := by
  rw [val_main_v11_apply, val_main_v9_apply, v8_at, v7_at]; rfl
/-- The mean square's gradient, spread over its row. -/
theorem v47_at (r : Fin 8192) (b : Fin 2048) : val_main_v47 (F := Ideal) X0 X1 X2 X3 X4 (ix2 r b)
    = Ideal.div ((∑ k, X2 (ix2 r k) * ((D X0 X1 r k * (1 + X4 (ix2 0 k))) * X3 (ix2 0 k)))
        * (InDxMath.H * Ideal.div (rs (fun k => X2 (ix2 r k))) (ms (fun k => X2 (ix2 r k))))) InDxMath.C := by
  rw [val_main_v47_apply, val_main_v46_apply, val_main_cst_10_apply, Ideal.ofBits_def, Ideal.ofBits_zero_f32, zero_add, Fin.sum_univ_one]
  have e : idx_main_v46 (idx_main_v47 (ix2 r b)) 0 = ix2 r 0 := by funext q; fin_cases q <;> rfl
  rw [e, val_main_v45_apply, val_main_v43_apply, val_main_v39_apply, v11_at,
    v38_at X0 X1 X2 X3 X4 r _ (Fin.ext (by show r.val * 1 + 0 = r.val; omega))]
  rfl

/-- The gradient at the norm's input. -/
theorem dx_at (r : Fin 8192) (b : Fin 2048) : val_main_v51 (F := Ideal) X0 X1 X2 X3 X4 X5 (ix2 r b)
    = rs (fun k => X2 (ix2 r k)) * ((D X0 X1 r b * (1 + X4 (ix2 0 b))) * X3 (ix2 0 b)
        - XN X2 r b * Ideal.div (∑ k, ((D X0 X1 r k * (1 + X4 (ix2 0 k))) * X3 (ix2 0 k)) * XN X2 r k) InDxMath.C) + X5 (ix2 r b) := by
  rw [val_main_v51_apply, val_main_v49_apply, val_main_v50_apply, val_main_v48_apply, val_main_v42_apply, val_main_v41_apply, v36_at, v47_at,
    val_main_v40_apply, show idx_main_v40 (ix2 r b) = ix2 r 0 from by funext q; fin_cases q <;> rfl, v8_at]
  simp only [Ideal.addf_def, Ideal.mulf_def]
  exact (InDxMath.dx (fun k => X2 (ix2 r k)) (fun k => (D X0 X1 r k * (1 + X4 (ix2 0 k))) * X3 (ix2 0 k)) (X5 (ix2 r b)) b).symm

end Cert.InDxRefIdeal.Hand
end
-- ==== Proof.InDxValue.lean ====
module

public import proofs.«01_k».proof.Proof.InDxGrid
public import proofs.«01_k».proof.Proof.InDxRef

/-! The gradient through the in-projection, the modulation and the norm: the kernel's four results are the reference's. -/

@[expose] public section
set_option maxRecDepth 16384
noncomputable section
namespace Cert.InDxIdeal.Hand
set_option maxHeartbeats 2000000
open InDxMath (rs)
open Cert.InDxIdeal Cert.InDxIdeal.Gen Cert.InDxIdeal.Body Idealize.ShloMosaic Idealize.ShloMosaic.TcCoe Idealize.SL.Sem
open Idealize.ShloMosaic.Pipeline (Dat)
open Cert.InDxRefIdeal.Hand (D XN)
variable (m : (ℓ : Loc nD τ sig) → Buf (Elt Ideal) ℓ)

theorem idx : ∀ t : Fin cfg0.N, win0_0.index t = ![t.val / 5, t.val % 5] ∧ win0_1.index t = ![0, t.val % 5] ∧ win0_2.index t = ![t.val / 5, 0]
    ∧ win0_3.index t = ![0, 0] ∧ win0_4.index t = ![0, 0] ∧ win0_5.index t = ![t.val / 5, 0] ∧ win0_6.index t = ![t.val / 5, 0]
    ∧ win0_7.index t = ![0, 0] ∧ win0_8.index t = ![0, 0] ∧ win0_9.index t = ![0, 0] :=
  (by decide +kernel : ∀ t : Fin grid0.N, _)

/-- The weights the kernel stages are the argument, rounded. -/
theorem V_w (c : Dev nD) : V m c main_v0 = m ((c : Thread nD τ).loc main_arg1) := by
  entry_read; rfl

/-- The argument arrays. -/
abbrev A0 (c : Dev nD) : FVec Ideal S8192x10240 .bf16 := m ((c : Thread nD τ).loc main_arg0)
abbrev A1 (c : Dev nD) : FVec Ideal S2048x10240 .f32 := m ((c : Thread nD τ).loc main_arg1)
abbrev A2 (c : Dev nD) : FVec Ideal S8192x2048 .f32 := m ((c : Thread nD τ).loc main_arg2)
abbrev A3 (c : Dev nD) : FVec Ideal S1x2048 .f32 := m ((c : Thread nD τ).loc main_arg3)
abbrev A4 (c : Dev nD) : FVec Ideal S1x2048 .f32 := m ((c : Thread nD τ).loc main_arg4)
abbrev A5 (c : Dev nD) : FVec Ideal S8192x2048 .f32 := m ((c : Thread nD τ).loc main_arg5)

/-- The array's row which is row `r` of a point's block. -/
def grow (t : Fin cfg0.N) (r : Fin 512) : Fin 8192 :=
  ⟨t.val / 5 * 512 + r.val, by have := lt_of_lt_of_eq t.isLt (show cfg0.N = 80 from N_0); omega⟩

theorem blk2 (c : Dev nD) (t : Fin cfg0.N) (r : Fin 512) (b : Fin 2048) :
    (show Vec Ideal S512x2048 .f32 from iblk m c 2 t) (ix2 r b) = A2 m c (ix2 (grow t r) b) := by
  blk_point [iblk, V_main_arg2, idx t]; unfold grow; rfl
theorem blk3 (c : Dev nD) (t : Fin cfg0.N) (b : Fin 2048) :
    (show Vec Ideal S1x2048 .f32 from iblk m c 3 t) (ix2 0 b) = A3 m c (ix2 0 b) := by
  blk_point [iblk, V_main_arg3, idx t]
theorem blk4 (c : Dev nD) (t : Fin cfg0.N) (b : Fin 2048) :
    (show Vec Ideal S1x2048 .f32 from iblk m c 4 t) (ix2 0 b) = A4 m c (ix2 0 b) := by
  blk_point [iblk, V_main_arg4, idx t]
theorem blk5 (c : Dev nD) (t : Fin cfg0.N) (r : Fin 512) (b : Fin 2048) :
    (show Vec Ideal S512x2048 .f32 from iblk m c 5 t) (ix2 r b) = A5 m c (ix2 (grow t r) b) := by
  blk_point [iblk, V_main_arg5, idx t]; unfold grow; rfl
theorem xnb_at (c : Dev nD) (t : Fin cfg0.N) (r : Fin 512) (b : Fin 2048) : xnb m c t r b = XN (A2 m c) (grow t r) b := by
  unfold xnb XN; rw [blk2]; exact congrArg (_ * rs ·) (funext fun x => blk2 m c t r x)

/-- What the accumulator holds after a row block's last column block: its five column blocks' products. -/
theorem acc_sum (c : Dev nD) (t : Fin cfg0.N) (h : t.val % 5 = 4) (j : S512x2048.Idx) :
    (outsAt0 m c t.val t.isLt).2.2.2.2 j = 0 + ∑ s : Fin 5, ∑ k : Fin 2048,
      (show Vec Ideal S512x2048 .bf16 from iblk m c 0 ⟨5 * (t.val / 5) + s.val, Pipeline.run_point_lt_of_flush t h s⟩) (ix2 (j 0) k)
      * (show Vec Ideal S2048x2048 .bf16 from iblk m c 1 ⟨5 * (t.val / 5) + s.val, Pipeline.run_point_lt_of_flush t h s⟩) (ix2 (j 1) k) := by
  have hj : ∀ j : S512x2048.Idx, ∃ (a : Fin 512) (b : Fin 2048), j = ix2 a b := fun j => ⟨j 0, j 1, by funext q; fin_cases q <;> rfl⟩
  exact Pipeline.eq_sum_fin_of_reset_step_apply_of_flush (fun n h => (outsAt0 m c n h).2.2.2.2) 5 (fun _ => 0)
    (fun p j => ∑ k : Fin 2048, (show Vec Ideal S512x2048 .bf16 from iblk m c 0 p) (ix2 (j 0) k) * (show Vec Ideal S2048x2048 .bf16 from iblk m c 1 p) (ix2 (j 1) k))
    (fun t h j => by
      obtain ⟨a, b, rfl⟩ := hj j
      rw [outsAt0_A m c t h (by omega) (by omega)]; frame_out; exact pay2_at _ _ a b)
    (fun t h j => by
      obtain ⟨a, b, rfl⟩ := hj j
      by_cases h4 : t.val % 5 = 4
      · by_cases h3 : t.val < 5
        · dsimp only; rw [(last_C m c t h4 h3).1]; exact pay3_at _ _ _ a b
        · dsimp only; rw [(last_D m c t h4 h3).1]; exact pay3_at _ _ _ a b
      · rw [outsAt0_B m c t h (by omega) h4]; frame_out
        exact (pay3_at _ _ _ a b).trans (congrArg (· + _) (congrFun ((Memref.isWhole_whole cc0_scratch0).read_unread _) _)))
    t h j

/-- The accumulator is the gradient at the modulated rows. -/
theorem acc (c : Dev nD) (t : Fin cfg0.N) (h : t.val % 5 = 4) (a : Fin 512) (b : Fin 2048) :
    (outsAt0 m c t.val t.isLt).2.2.2.2 (ix2 a b) = D (A0 m c) (A1 m c) (grow t a) b := by
  rw [acc_sum m c t h, zero_add]
  have ht : t.val < 80 := lt_of_lt_of_eq t.isLt N_0
  refine Fin.sum_mul_add_congr fun s k hl => ?_
  blk_point [iblk, V_main_arg0, V_w, idx ⟨_, Pipeline.run_point_lt_of_flush t h s⟩]
  unfold grow; dsimp only; omega

/-- A row block's result: the gradient at the norm's input. -/
theorem dx_blk (c : Dev nD) (t : Fin cfg0.N) (h : t.val % 5 = 4) (k : Fin 2) (r : Fin 256) (b : Fin 2048) :
    (outsAt0 m c t.val t.isLt).1 (ix2 (hrow k r) b)
      = Cert.InDxRefIdeal.Read.val_main_v51 (F := Ideal) (A0 m c) (A1 m c) (A2 m c) (A3 m c) (A4 m c) (A5 m c) (ix2 (grow t (hrow k r)) b) := by
  rw [Cert.InDxRefIdeal.Hand.dx_at]
  by_cases h3 : t.val < 5
  · rw [(last_C m c t h h3).2.2.2.2]; simp only [acc m c t h, blk2, blk3, blk4, blk5]; rfl
  · rw [(last_D m c t h h3).2.2.2.2]; simp only [acc m c t h, blk2, blk3, blk4, blk5]; rfl

/-- The array of gradients at the norm's input. -/
theorem final6 (c : Dev nD) : (dats m 0 c).arrAt 6 (cfgs 0).N
    = Cert.InDxRefIdeal.Read.val_main_v51 (F := Ideal) (A0 m c) (A1 m c) (A2 m c) (A3 m c) (A4 m c) (A5 m c) := by
  refine (dats m 0 c).arrAt_eq_of_covers 6 _ (by decide +kernel) fun t hf y => ?_
  have h := (flush0_6 t).mp hf
  blk_simp
  rw [after0_6]
  obtain ⟨a, b, rfl⟩ : ∃ (a : Fin 512) (b : Fin 2048), y = ix2 a b := ⟨y 0, y 1, by funext q; fin_cases q <;> rfl⟩
  have ht : t.val < 80 := lt_of_lt_of_eq t.isLt N_0
  have e : ((cfg0.win 6).blk t).view.emb (ix2 a b) = (ix2 (grow t a) b : S8192x2048.Idx) := by
    unfold grow; blk_ext [idx t]
  rw [e]
  obtain ⟨k, r, rfl⟩ : ∃ (k : Fin 2) (r : Fin 256), a = hrow k r :=
    ⟨⟨a.val / 256, by omega⟩, ⟨a.val % 256, by omega⟩, Fin.ext (by unfold hrow; dsimp only; omega)⟩
  exact dx_blk m c t h k r b

/-- A value kept from point to point, added to at each row block's last point. -/
theorem sums (f : (n : ℕ) → n < cfg0.N → EReal) (P : ℕ → EReal)
    (first : ∀ h, f 4 h = 0 + P 0)
    (add : ∀ t : Fin cfg0.N, t.val % 5 = 4 → ¬ t.val < 5 → f t.val t.isLt = f (t.val - 1) (Nat.lt_of_le_of_lt (Nat.sub_le _ _) t.isLt) + P (t.val / 5))
    (keep : ∀ t : Fin cfg0.N, ¬ t.val % 5 = 4 → ¬ t.val < 5 → f t.val t.isLt = f (t.val - 1) (Nat.lt_of_le_of_lt (Nat.sub_le _ _) t.isLt)) :
    ∀ n h, 4 ≤ n → f n h = ∑ i ∈ Finset.range ((n + 1) / 5), P i := by
  intro n
  induction n with
  | zero => intro _ h; omega
  | succ n ih =>
    intro hn h4
    by_cases e : n + 1 = 4
    · obtain rfl : n = 3 := by omega
      rw [first, zero_add]; simp
    · have i := ih (Nat.lt_of_succ_lt hn) (by omega)
      by_cases hm : (n + 1) % 5 = 4
      · rw [add ⟨n + 1, hn⟩ hm (by dsimp only; omega), show (n + 1 + 1) / 5 = (n + 1) / 5 + 1 from by omega, Finset.sum_range_succ]
        exact congrArg (· + _) i
      · rw [keep ⟨n + 1, hn⟩ hm (by dsimp only; omega), show (n + 1 + 1) / 5 = (n + 1) / 5 from by omega]
        exact i

/-- The sum over the blocks, their halves and the halves' rows is the sum over the rows. -/
theorem rows_sum (T : Fin 8192 → EReal) (P : ℕ → EReal)
    (hP : ∀ i : Fin 16, P i.val = ∑ k : Fin 2, ∑ r : Fin 256, T ⟨i.val * 512 + (hrow k r).val, by omega⟩) :
    ∑ i ∈ Finset.range 16, P i = ∑ r, T r := by
  rw [Finset.sum_range]
  have e : ∀ i : Fin 16, P i.val = ∑ r : Fin 512, T ⟨i.val * 512 + r.val, by omega⟩ := fun i => by
    rw [hP i]
    exact Fin.sum_mul_add_congr (f := fun r : Fin 512 => T ⟨i.val * 512 + r.val, by omega⟩) fun s k hl =>
      congrArg T (Fin.ext (by unfold hrow; dsimp only; omega))
  rw [Finset.sum_congr rfl fun i _ => e i]
  exact Fin.sum_mul_add_congr fun s k hl => rfl

/-- The points between leave the three sums as they are. -/
theorem keep (c : Dev nD) (t : Fin cfg0.N) (h : ¬ t.val % 5 = 4) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1 := by
  by_cases h0 : t.val % 5 = 0
  · rw [outsAt0_A m c t h0 (by omega) h]; dsimp only; exact ⟨rfl, rfl, rfl⟩
  · rw [outsAt0_B m c t h0 (by omega) h]; dsimp only; exact ⟨rfl, rfl, rfl⟩

/-- What a kept row holds after the last point, where each row block's last point adds the block's rows' terms. -/
theorem total (f : (n : ℕ) → n < cfg0.N → EReal) (T : Fin 8192 → EReal)
    (first : ∀ t : Fin cfg0.N, t.val % 5 = 4 → t.val < 5 → f t.val t.isLt = 0 + ∑ k : Fin 2, ∑ r : Fin 256, T (grow t (hrow k r)))
    (add : ∀ t : Fin cfg0.N, t.val % 5 = 4 → ¬ t.val < 5 → f t.val t.isLt
      = f (t.val - 1) (Nat.lt_of_le_of_lt (Nat.sub_le _ _) t.isLt) + ∑ k : Fin 2, ∑ r : Fin 256, T (grow t (hrow k r)))
    (keep : ∀ t : Fin cfg0.N, ¬ t.val % 5 = 4 → f t.val t.isLt = f (t.val - 1) (Nat.lt_of_le_of_lt (Nat.sub_le _ _) t.isLt))
    (t : Fin cfg0.N) (h : t.val % 80 = 79) : f t.val t.isLt = ∑ r, T r := by
  have ht : t.val < 80 := lt_of_lt_of_eq t.isLt N_0
  let P : ℕ → EReal := fun i => if hi : i < 16 then ∑ k : Fin 2, ∑ r : Fin 256, T ⟨i * 512 + (hrow k r).val, by omega⟩ else 0
  have hP : ∀ t : Fin cfg0.N, P (t.val / 5) = ∑ k : Fin 2, ∑ r : Fin 256, T (grow t (hrow k r)) := fun t => by
    have ht : t.val < 80 := lt_of_lt_of_eq t.isLt N_0
    exact dif_pos (show t.val / 5 < 16 by omega)
  rw [sums f P (fun h4 => (first ⟨4, h4⟩ rfl (show 4 < 5 from by decide)).trans (congrArg (0 + ·) ((hP ⟨4, h4⟩).symm.trans (congrArg P (show 4 / 5 = 0 from by decide)))))
    (fun t h4 h3 => (add t h4 h3).trans (congrArg (_ + ·) (hP t).symm)) (fun t h4 _ => keep t h4) t.val t.isLt (by omega),
    show (t.val + 1) / 5 = 16 from by omega]
  exact rows_sum T P fun i => dif_pos i.isLt

/-- The shift's gradient. -/
theorem final7 (c : Dev nD) : (dats m 0 c).arrAt 7 (cfgs 0).N = Cert.InDxRefIdeal.Read.val_main_v26 (F := Ideal) (A0 m c) (A1 m c) := by
  refine (dats m 0 c).arrAt_eq_of_covers 7 _ (by decide +kernel) fun t hf y => ?_
  have h := (flush0_7 t).mp hf
  blk_simp
  rw [after0_7]
  obtain ⟨a, b, rfl⟩ : ∃ (a : Fin 1) (b : Fin 2048), y = ix2 a b := ⟨y 0, y 1, by funext q; fin_cases q <;> rfl⟩
  obtain rfl : a = 0 := Subsingleton.elim _ _
  have e : ((cfg0.win 7).blk t).view.emb (ix2 0 b) = (ix2 0 b : S1x2048.Idx) := by
    blk_ext [idx t]
  rw [e, Cert.InDxRefIdeal.Hand.dsh_at]
  refine total (fun n h => (outsAt0 m c n h).2.1 (ix2 0 b)) (fun r => D (A0 m c) (A1 m c) r b)
    (fun t h4 h3 => ?_) (fun t h4 h3 => ?_) (fun t h4 => congrFun (keep m c t h4).1 _) t h
  · exact ((last_C m c t h4 h3).2.1 b).trans (by simp only [acc m c t h4, xnb_at, blk3, blk4])
  · exact ((last_D m c t h4 h3).2.1 b).trans (by simp only [acc m c t h4, xnb_at, blk3, blk4])

/-- The scale's gradient. -/
theorem final8 (c : Dev nD) : (dats m 0 c).arrAt 8 (cfgs 0).N = Cert.InDxRefIdeal.Read.val_main_v29 (F := Ideal) (A0 m c) (A1 m c) (A2 m c) (A3 m c) := by
  refine (dats m 0 c).arrAt_eq_of_covers 8 _ (by decide +kernel) fun t hf y => ?_
  have h := (flush0_8 t).mp hf
  blk_simp
  rw [after0_8]
  obtain ⟨a, b, rfl⟩ : ∃ (a : Fin 1) (b : Fin 2048), y = ix2 a b := ⟨y 0, y 1, by funext q; fin_cases q <;> rfl⟩
  obtain rfl : a = 0 := Subsingleton.elim _ _
  have e : ((cfg0.win 8).blk t).view.emb (ix2 0 b) = (ix2 0 b : S1x2048.Idx) := by
    blk_ext [idx t]
  rw [e, Cert.InDxRefIdeal.Hand.dsc_at]
  refine total (fun n h => (outsAt0 m c n h).2.2.1 (ix2 0 b)) (fun r => D (A0 m c) (A1 m c) r b * (XN (A2 m c) r b * A3 m c (ix2 0 b)))
    (fun t h4 h3 => ?_) (fun t h4 h3 => ?_) (fun t h4 => congrFun (keep m c t h4).2.1 _) t h
  · exact ((last_C m c t h4 h3).2.2.1 b).trans (by simp only [acc m c t h4, xnb_at, blk3, blk4])
  · exact ((last_D m c t h4 h3).2.2.1 b).trans (by simp only [acc m c t h4, xnb_at, blk3, blk4])

/-- The gain's gradient. -/
theorem final9 (c : Dev nD) : (dats m 0 c).arrAt 9 (cfgs 0).N = Cert.InDxRefIdeal.Read.val_main_v34 (F := Ideal) (A0 m c) (A1 m c) (A2 m c) (A4 m c) := by
  refine (dats m 0 c).arrAt_eq_of_covers 9 _ (by decide +kernel) fun t hf y => ?_
  have h := (flush0_9 t).mp hf
  blk_simp
  rw [after0_9]
  obtain ⟨a, b, rfl⟩ : ∃ (a : Fin 1) (b : Fin 2048), y = ix2 a b := ⟨y 0, y 1, by funext q; fin_cases q <;> rfl⟩
  obtain rfl : a = 0 := Subsingleton.elim _ _
  have e : ((cfg0.win 9).blk t).view.emb (ix2 0 b) = (ix2 0 b : S1x2048.Idx) := by
    blk_ext [idx t]
  rw [e, Cert.InDxRefIdeal.Hand.dg_at]
  refine total (fun n h => (outsAt0 m c n h).2.2.2.1 (ix2 0 b)) (fun r => (D (A0 m c) (A1 m c) r b * (1 + A4 m c (ix2 0 b))) * XN (A2 m c) r b)
    (fun t h4 h3 => ?_) (fun t h4 h3 => ?_) (fun t h4 => congrFun (keep m c t h4).2.2 _) t h
  · exact ((last_C m c t h4 h3).2.2.2.1 b).trans (by simp only [acc m c t h4, xnb_at, blk3, blk4])
  · exact ((last_D m c t h4 h3).2.2.2.1 b).trans (by simp only [acc m c t h4, xnb_at, blk3, blk4])

end Cert.InDxIdeal.Hand

end
-- ==== Proof.InDxClaim.lean ====
module

public import proofs.«01_k».proof.Proof.InDxValue
public import proofs.«01_k».proof.Proof.Gen.InDx

/-! The claims over the gradient through the in-projection, the modulation and the norm. -/

@[expose] public section
set_option maxRecDepth 16384
noncomputable section
namespace Cert.InDxRefIdeal.Hand
open Cert.InDxRefIdeal Idealize.ShloMosaic Idealize.ShloMosaic.TcCoe Idealize.SL.Sem

/-- The reference's run, its four results read as functions of its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) = Cert.InDxRefIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v26) = Cert.InDxRefIdeal.Read.val_main_v26 (F := Ideal) (m ((c.tc : Thread nD τ).loc main_arg0)) (m ((c.tc : Thread nD τ).loc main_arg1))
      ∧ r.2.mem ((c.tc : Thread nD τ).loc main_v29) = Cert.InDxRefIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34) = Cert.InDxRefIdeal.Read.val_main_v34 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Read.val_main_v51_eq m c), (h c).2⟩) (Value.run m ρ)

end Cert.InDxRefIdeal.Hand

namespace Cert.Proof
open Idealize.ShloMosaic Idealize.ShloMosaic.TcCoe Idealize.SL.Sem
open Cert.InDxIdeal.Hand (A0 A1 A2 A3 A4 A5)

/-- The kernel's body table is the idealized program's, which has the same text. -/
theorem bodies_InDx : Cert.InDx.defs₀ (F := Bits) = Cert.InDxIdeal.defs₀ (F := Bits) := by
  unfold Cert.InDx.defs₀ Cert.InDxIdeal.defs₀
  refine congrArg Defs.onTc ?_
  funext l a
  match l, a with
  | 0, (t, s) => rfl
theorem defs_InDx : Cert.InDx.defs (F := Bits) = Cert.InDxIdeal.defs (F := Bits) :=
  congrArg (Pipeline.defs Cert.InDx.pcfgs) bodies_InDx

/-- The kernel's frame, from the one run. -/
theorem frame_InDx : Cert.quiescent_InDx := fun m ρ _ => by
  rw [defs_InDx]
  exact (θ_run Cert.InDxIdeal.defs _ _).mono (fun _ h => h) (Cert.InDxIdeal.Body.frame (F := Bits) m ρ)

/-- The kernel's four results are the reference's, over the reals extended by the infinities. -/
theorem algebraic_InDx : Cert.algebraic_InDxIdeal_InDxRefIdeal := by
  intro m g m' g' _ hagree
  refine ⟨fun c => Cert.InDxRefIdeal.Read.val_main_v51 (F := Ideal) (A0 m c) (A1 m c) (A2 m c) (A3 m c) (A4 m c) (A5 m c),
    fun c => Cert.InDxRefIdeal.Read.val_main_v26 (F := Ideal) (A0 m c) (A1 m c),
    fun c => Cert.InDxRefIdeal.Read.val_main_v29 (F := Ideal) (A0 m c) (A1 m c) (A2 m c) (A3 m c),
    fun c => Cert.InDxRefIdeal.Read.val_main_v34 (F := Ideal) (A0 m c) (A1 m c) (A2 m c) (A4 m c), ?_, ?_⟩
  · run_from Cert.InDxIdeal.Body.run_main m g
    · exact Cert.InDxIdeal.Hand.final6 m c
    · exact Cert.InDxIdeal.Hand.final7 m c
    · exact Cert.InDxIdeal.Hand.final8 m c
    · exact Cert.InDxIdeal.Hand.final9 m c
  · refine (θ_run Cert.InDxRefIdeal.defs _ _).mono (fun r h c => ?_) (Cert.InDxRefIdeal.Hand.run m' g')
    obtain ⟨h51, h26, h29, h34, hargs⟩ := h c
    obtain ⟨e0, e1, e2, e3, e4, e5⟩ := hagree c
    rw [e0, e1, e2, e3, e4, e5] at h51
    rw [e0, e1] at h26
    rw [e0, e1, e2, e3] at h29
    rw [e0, e1, e2, e4] at h34
    exact ⟨h51, h26, h29, h34, hargs⟩

end Cert.Proof

end
-- ==== Proof.GateBwdRef.lean ====
module

public import proofs.«01_k».proof.Proof.Gen.GateBwdRefIdeal.Run
public import proofs.«01_k».proof.Proof.Gen.GateBwdRefIdeal.Read
public import proofs.«01_k».proof.Defs
public import proofs.«01_k».proof.Proof.InDxMath
public import Idealize.ShloMosaic.Lib.Pipeline.ValueKit
public import Idealize.ShloMosaic.Lib.Pointwise
public import Idealize.ShloMosaic.Lib.Claim

/-! The reference's gradients through the gated norm, the output projection and the gated sum, entry by entry. -/

@[expose] public section
set_option maxRecDepth 16384
noncomputable section

namespace GateBwdRow
open Idealize.ShloMosaic
open InDxMath (rs ms)

/-- A row's gradient at the normalised entries: the residual's gradient `g` times the gate and the gain. -/
def grad (g gate gain : Fin 2048 → EReal) (k : Fin 2048) : EReal := (g k * gate k) * gain k
/-- The gradient at the norm's input, of a row. -/
def dout (x n : Fin 2048 → EReal) (b : Fin 2048) : EReal :=
  rs x * (n b - (x b * rs x) * Ideal.div (∑ k, n k * (x k * rs x)) InDxMath.C)
/-- The logistic function as the programs spell it. -/
def sg (z : EReal) : EReal := Ideal.div 1 (1 + Ideal.exp (-z))
/-- The gradient at a gate's input: the gated sum's gradient, the gated value, the gate's input. -/
def dz (d p z : EReal) : EReal := ((d * p) * sg z) * (1 - sg z)

end GateBwdRow

namespace Cert.GateBwdRefIdeal.Hand
set_option maxHeartbeats 1000000
open Cert.GateBwdRefIdeal Cert.GateBwdRefIdeal.Gen Cert.GateBwdRefIdeal.Read Idealize.ShloMosaic Idealize.ShloMosaic.TcCoe Idealize.SL.Sem
open InDxMath (rs ms)
open GateBwdRow

variable (X0 X1 : FVec Ideal S8192x2048 .f32) (X2 X3 : FVec Ideal S1x2048 .f32) (X4 : FVec Ideal S2048x2048 .f32)
  (X5 : FVec Ideal S8192x6144 .bf16) (X6 X7 : FVec Ideal S8192x2048 .bf16)

/-- An array's row, and a vector's entries. -/
abbrev row (X : FVec Ideal S8192x2048 .f32) (r : Fin 8192) (k : Fin 2048) : EReal := X (ix2 r k)
abbrev vec (X : FVec Ideal S1x2048 .f32) (k : Fin 2048) : EReal := X (ix2 0 k)
/-- The gradient at the projected rows, and at the gated sum. -/
abbrev DO (r : Fin 8192) (b : Fin 2048) : EReal := dout (row X1 r) (grad (row X0 r) (vec X3) (vec X2)) b
abbrev DM (r : Fin 8192) (b : Fin 2048) : EReal := ∑ k, DO X0 X1 X2 X3 r k * X4 (ix2 b k)

theorem v6_at (r : Fin 8192) : val_main_v6 (F := Ideal) X1 (ix2 r 0) = ms (row X1 r) := by
  pointwise [val_main_v0, val_main_v1, val_main_v2, val_main_v3, val_main_v4, val_main_v5, val_main_v6, val_main_cst, val_main_cst_0, val_main_cst_1]
  rfl
theorem v7_at (r : Fin 8192) : val_main_v7 (F := Ideal) X1 (ix2 r 0) = rs (row X1 r) := by
  rw [val_main_v7_apply, v6_at]; rfl
theorem v12_at (r : Fin 8192) (b : Fin 2048) : val_main_v12 (F := Ideal) X1 (ix2 r b) = X1 (ix2 r b) * rs (row X1 r) := by
  pointwise [val_main_v12, val_main_v11]
  rw [v7_at]
theorem v26_at (r : Fin 8192) (b : Fin 2048) : val_main_v26 (F := Ideal) X0 X2 X3 (ix2 r b) = grad (row X0 r) (vec X3) (vec X2) b := by
  pointwise [val_main_v26, val_main_v25, val_main_v18, val_main_v17]
  exact congrArg (· * _) (mul_comm _ _)
theorem v10_at (r : Fin 8192) : val_main_v10 (F := Ideal) X1 (ix2 r 0) = InDxMath.H * Ideal.div (rs (row X1 r)) (ms (row X1 r)) := by
  pointwise [val_main_v10, val_main_v9, val_main_v8, val_main_cst_2]
  rw [v7_at, v6_at]
theorem v29_at (r : Fin 8192) : val_main_v29 (F := Ideal) X0 X1 X2 X3 (ix2 r 0)
    = ∑ k, X1 (ix2 r k) * grad (row X0 r) (vec X3) (vec X2) k := by
  pointwise [val_main_v29, val_main_v28, val_main_v27, val_main_cst_5]
  simp only [v26_at, zero_add]
/-- The mean square's gradient, spread over its row. -/
theorem v36_at (r : Fin 8192) (b : Fin 2048) : val_main_v36 (F := Ideal) X0 X1 X2 X3 (ix2 r b)
    = Ideal.div ((∑ k, X1 (ix2 r k) * grad (row X0 r) (vec X3) (vec X2) k) * (InDxMath.H * Ideal.div (rs (row X1 r)) (ms (row X1 r)))) InDxMath.C := by
  rw [val_main_v36_apply, val_main_v35_apply, val_main_cst_7_apply, Ideal.ofBits_def, Ideal.ofBits_zero_f32, zero_add, Fin.sum_univ_one]
  have e : idx_main_v35 (idx_main_v36 (ix2 r b)) 0 = ix2 r 0 := by funext q; fin_cases q <;> rfl
  rw [e, val_main_v34_apply, val_main_v32_apply, v29_at, v10_at]
  rfl
theorem v40_at (r : Fin 8192) (b : Fin 2048) : val_main_v40 (F := Ideal) X0 X1 X2 X3 (ix2 r b) = DO X0 X1 X2 X3 r b := by
  pointwise [val_main_v40, val_main_v39, val_main_v38, val_main_v37, val_main_v31, val_main_v30]
  rw [v36_at, v26_at, v7_at]
  have h := InDxMath.dx (row X1 r) (grad (row X0 r) (vec X3) (vec X2)) 0 b
  rw [add_zero, zero_add] at h
  exact h.symm
theorem v69_at (r : Fin 8192) (b : Fin 2048) : val_main_v69 (F := Ideal) X0 X1 X2 X3 X4 (ix2 r b) = DM X0 X1 X2 X3 X4 r b := by
  pointwise [val_main_v69]
  simp only [v40_at]
theorem v52_at (r : Fin 8192) (b : Fin 2048) : val_main_v52 (F := Ideal) X5 (ix2 r b) = sg (X5 (ix2 r ⟨b.val, by omega⟩)) := by
  pointwise [val_main_v41, val_main_v42, val_main_v47, val_main_v48, val_main_v49, val_main_v50, val_main_v51, val_main_v52, val_main_cst_8, val_main_cst_9]
  rfl
theorem v62_at (r : Fin 8192) (b : Fin 2048) : val_main_v62 (F := Ideal) X5 (ix2 r b) = sg (X5 (ix2 r ⟨2048 + b.val, by omega⟩)) := by
  pointwise [val_main_v43, val_main_v44, val_main_v57, val_main_v58, val_main_v59, val_main_v60, val_main_v61, val_main_v62, val_main_cst_11, val_main_cst_12]
  rfl

/-- The gradients at the projected rows and at the two projections. -/
theorem do_at (r : Fin 8192) (b : Fin 2048) : val_main_v76 (F := Ideal) X0 X1 X2 X3 (ix2 r b) = DO X0 X1 X2 X3 r b := by
  pointwise [val_main_v76]
  rw [v40_at]
theorem dpa_at (r : Fin 8192) (b : Fin 2048) : val_main_v77 (F := Ideal) X0 X1 X2 X3 X4 X5 (ix2 r b)
    = DM X0 X1 X2 X3 X4 r b * sg (X5 (ix2 r ⟨b.val, by omega⟩)) := by
  pointwise [val_main_v77, val_main_v73]
  rw [v69_at, v52_at, mul_comm]
theorem dpb_at (r : Fin 8192) (b : Fin 2048) : val_main_v78 (F := Ideal) X0 X1 X2 X3 X4 X5 (ix2 r b)
    = DM X0 X1 X2 X3 X4 r b * sg (X5 (ix2 r ⟨2048 + b.val, by omega⟩)) := by
  pointwise [val_main_v78, val_main_v70]
  rw [v69_at, v62_at, mul_comm]

/-- The gradients at the two gates' inputs. -/
theorem dga_at (r : Fin 8192) (b : Fin 2048) : val_main_v75 (F := Ideal) X0 X1 X2 X3 X4 X5 X6 (ix2 r b)
    = dz (DM X0 X1 X2 X3 X4 r b) (X6 (ix2 r b)) (X5 (ix2 r ⟨b.val, by omega⟩)) := by
  pointwise [val_main_v75, val_main_v74, val_main_v55, val_main_v54, val_main_v53, val_main_v45, val_main_cst_10]
  rw [v69_at, v52_at]
  exact (mul_assoc _ _ _).symm
theorem dgb_at (r : Fin 8192) (b : Fin 2048) : val_main_v72 (F := Ideal) X0 X1 X2 X3 X4 X5 X7 (ix2 r b)
    = dz (DM X0 X1 X2 X3 X4 r b) (X7 (ix2 r b)) (X5 (ix2 r ⟨2048 + b.val, by omega⟩)) := by
  pointwise [val_main_v72, val_main_v71, val_main_v65, val_main_v64, val_main_v63, val_main_v46, val_main_cst_13]
  rw [v69_at, v62_at]
  exact (mul_assoc _ _ _).symm
/-- The two side by side. -/
theorem lo_at (r : Fin 8192) (b : Fin 2048) : val_main_v80 (F := Ideal) X0 X1 X2 X3 X4 X5 X6 X7 (ix2 r (⟨b.val, by omega⟩ : Fin 4096))
    = dz (DM X0 X1 X2 X3 X4 r b) (X6 (ix2 r b)) (X5 (ix2 r ⟨b.val, by omega⟩)) := by
  refine Eq.trans ?_ (dga_at X0 X1 X2 X3 X4 X5 X6 r b)
  pointwise [val_main_v80, val_main_v79]
theorem hi_at (r : Fin 8192) (b : Fin 2048) : val_main_v80 (F := Ideal) X0 X1 X2 X3 X4 X5 X6 X7 (ix2 r (⟨2048 + b.val, by omega⟩ : Fin 4096))
    = dz (DM X0 X1 X2 X3 X4 r b) (X7 (ix2 r b)) (X5 (ix2 r ⟨2048 + b.val, by omega⟩)) := by
  refine Eq.trans ?_ (dgb_at X0 X1 X2 X3 X4 X5 X7 r b)
  pointwise [val_main_v80, val_main_v79]

/-- The gate's and the gain's gradients. -/
theorem dgate_at (b : Fin 2048) : val_main_v21 (F := Ideal) X0 X1 X2 (ix2 0 b)
    = ∑ r : Fin 8192, X0 (ix2 r b) * ((X1 (ix2 r b) * rs (row X1 r)) * X2 (ix2 0 b)) := by
  pointwise [val_main_v21, val_main_v20, val_main_v19, val_main_v14, val_main_v13, val_main_cst_3]
  simp only [v12_at, zero_add]
theorem dgain_at (b : Fin 2048) : val_main_v24 (F := Ideal) X0 X1 X3 (ix2 0 b)
    = ∑ r : Fin 8192, (X0 (ix2 r b) * X3 (ix2 0 b)) * (X1 (ix2 r b) * rs (row X1 r)) := by
  pointwise [val_main_v24, val_main_v23, val_main_v22, val_main_v18, val_main_v17, val_main_cst_4]
  simp only [v12_at, zero_add]
  exact Finset.sum_congr rfl fun r _ => (mul_comm _ _).trans (congrArg (· * _) (mul_comm _ _))

end Cert.GateBwdRefIdeal.Hand
end
-- ==== Proof.GateBwdPay.lean ====
module

public import proofs.«01_k».proof.Proof.Gen.GateBwdIdeal.Frame
public import proofs.«01_k».proof.Proof.GateBwdRef

/-! The gradient through the gated norm, the output projection and the gated sum: what one point of the kernel computes,
    element by element. -/

@[expose] public section
set_option maxRecDepth 16384
noncomputable section
namespace Cert.GateBwdIdeal.Hand
set_option maxHeartbeats 1000000
open InDxMath (rs)
open GateBwdRow
open Cert.GateBwdIdeal Cert.GateBwdIdeal.Gen Idealize.ShloMosaic Idealize.ShloMosaic.TcCoe Idealize.SL.Sem

variable (x g : Vec Ideal S256x2048 .f32) (gn gt : Vec Ideal S1x2048 .f32) (d : FVec Ideal S256x2048 .bf16) (w : Vec Ideal S2048x2048 .bf16)
  (z p : Vec Ideal S256x2048 .bf16)

theorem pay3_at (a : Fin 256) : k0_pay3 x (ix2 a 0) = rs (fun k => x (ix2 a k)) := by
  unfold k0_pay3; pointwise; rfl
theorem pay4_at (a : Fin 256) (b : Fin 2048) : k0_pay4 x (ix2 a b) = x (ix2 a b) * rs (fun k => x (ix2 a k)) := by
  unfold k0_pay4; pointwise; rw [pay3_at]
/-- The block's gradient at the projected rows. -/
theorem pay6_at (a : Fin 256) (b : Fin 2048) : k0_pay6 x g gn gt (ix2 a b)
    = dout (fun k => x (ix2 a k)) (grad (fun k => g (ix2 a k)) (fun k => gt (ix2 0 k)) (fun k => gn (ix2 0 k))) b := by
  unfold k0_pay6; pointwise [k0_pay5]; simp only [pay3_at, pay4_at]; rfl
/-- The block's part of the gate's and of the gain's gradient. -/
theorem pay7_at (b : Fin 2048) : k0_pay7 x g gn (ix2 0 b)
    = ∑ r : Fin 256, g (ix2 r b) * ((x (ix2 r b) * rs (fun k => x (ix2 r k))) * gn (ix2 0 b)) := by
  unfold k0_pay7; pointwise; simp only [pay4_at]
theorem pay8_at (b : Fin 2048) : k0_pay8 x g gt (ix2 0 b)
    = ∑ r : Fin 256, (g (ix2 r b) * gt (ix2 0 b)) * (x (ix2 r b) * rs (fun k => x (ix2 r k))) := by
  unfold k0_pay8; pointwise [k0_pay5]; simp only [pay4_at]
theorem pay9_at (q : FVec Ideal S1x2048 .f32) (v : Vec Ideal S1x2048 .f32) (b : Fin 2048) :
    k0_pay9 q v (ix2 0 b) = v (ix2 0 b) + q (ix2 0 b) := by
  unfold k0_pay9; pointwise
theorem pay10_at (q : FVec Ideal S1x2048 .f32) (v : Vec Ideal S1x2048 .f32) (b : Fin 2048) :
    k0_pay10 q v (ix2 0 b) = v (ix2 0 b) + q (ix2 0 b) := by
  unfold k0_pay10; pointwise
theorem pay11_at (a : Fin 256) (b : Fin 2048) : k0_pay11 d w (ix2 a b) = ∑ k : Fin 2048, d (ix2 a k) * w (ix2 b k) := by
  unfold k0_pay11; pointwise [dot_S256x2048_S2048x2048_S256x2048_1_1_0_0_n_n]
theorem pay12_at (a : Fin 256) (b : Fin 2048) : k0_pay12 z (ix2 a b) = sg (z (ix2 a b)) := by
  unfold k0_pay12; pointwise; simp only [zero_sub]; rfl
theorem pay13_at (a : Fin 256) (b : Fin 2048) : k0_pay13 z (ix2 a b) = sg (z (ix2 a b)) := by
  unfold k0_pay13; pointwise; simp only [zero_sub]; rfl
theorem pay14_at (a : Fin 256) (b : Fin 2048) : k0_pay14 d w z (ix2 a b) = (∑ k : Fin 2048, d (ix2 a k) * w (ix2 b k)) * sg (z (ix2 a b)) := by
  unfold k0_pay14; pointwise; rw [pay11_at, pay12_at]
theorem pay15_at (a : Fin 256) (b : Fin 2048) : k0_pay15 d w z (ix2 a b) = (∑ k : Fin 2048, d (ix2 a k) * w (ix2 b k)) * sg (z (ix2 a b)) := by
  unfold k0_pay15; pointwise; rw [pay11_at, pay13_at]
/-- The block's gradients at the gates' inputs. -/
theorem pay1_at (a : Fin 256) (b : Fin 2048) : k0_pay1 (k0_pay12 z) (k0_pay16 d w p) (ix2 a b)
    = dz (∑ k : Fin 2048, d (ix2 a k) * w (ix2 b k)) (p (ix2 a b)) (z (ix2 a b)) := by
  unfold k0_pay1; pointwise [k0_pay16]; rw [pay11_at, pay12_at]; rfl
theorem pay2_at (a : Fin 256) (b : Fin 2048) : k0_pay2 (k0_pay11 d w) (k0_pay13 z) p (ix2 a b)
    = dz (∑ k : Fin 2048, d (ix2 a k) * w (ix2 b k)) (p (ix2 a b)) (z (ix2 a b)) := by
  unfold k0_pay2; pointwise; rw [pay11_at, pay13_at]; rfl

end Cert.GateBwdIdeal.Hand
end
-- ==== Proof.GateBwdValue.lean ====
module

public import proofs.«01_k».proof.Proof.GateBwdPay

/-! The gradient through the gated norm, the output projection and the gated sum: the kernel's six results are the
    reference's. -/

@[expose] public section
set_option maxRecDepth 16384
noncomputable section
namespace Cert.GateBwdIdeal.Hand
set_option maxHeartbeats 2000000
open InDxMath (rs)
open GateBwdRow
open Cert.GateBwdIdeal Cert.GateBwdIdeal.Gen Idealize.ShloMosaic Idealize.ShloMosaic.TcCoe Idealize.SL.Sem
open Idealize.ShloMosaic.Pipeline (Dat)
open Cert.GateBwdRefIdeal.Hand (DO DM row vec)

variable (m : (ℓ : Loc nD τ sig) → Buf (Elt Ideal) ℓ)

/-- The argument arrays on a device. -/
abbrev A0 (c : Dev nD) : FVec Ideal S8192x2048 .f32 := m ((c : Thread nD τ).loc main_arg0)
abbrev A1 (c : Dev nD) : FVec Ideal S8192x2048 .f32 := m ((c : Thread nD τ).loc main_arg1)
abbrev A2 (c : Dev nD) : FVec Ideal S1x2048 .f32 := m ((c : Thread nD τ).loc main_arg2)
abbrev A3 (c : Dev nD) : FVec Ideal S1x2048 .f32 := m ((c : Thread nD τ).loc main_arg3)
abbrev A4 (c : Dev nD) : FVec Ideal S2048x2048 .f32 := m ((c : Thread nD τ).loc main_arg4)
abbrev A5 (c : Dev nD) : FVec Ideal S8192x6144 .bf16 := m ((c : Thread nD τ).loc main_arg5)
abbrev A6 (c : Dev nD) : FVec Ideal S8192x2048 .bf16 := m ((c : Thread nD τ).loc main_arg6)
abbrev A7 (c : Dev nD) : FVec Ideal S8192x2048 .bf16 := m ((c : Thread nD τ).loc main_arg7)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 1] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![0, 0] ∧ win0_14.index t = ![0, 0] :=
  (by decide +kernel : ∀ t : Fin grid0.N, _)

/-- The row of the arrays that a block's row is. -/
def grow (t : Fin cfg0.N) (a : Fin 256) : Fin 8192 := ⟨t.val * 256 + a.val, by have := lt_of_lt_of_eq t.isLt N_0; omega⟩

/-- The weight the kernel stages is the argument, rounded. -/
theorem V_w (c : Dev nD) : V m c main_v0 = m ((c : Thread nD τ).loc main_arg4) := by
  entry_read; rfl

/-- The staged blocks at an entry. -/
theorem blk0 (c : Dev nD) (t : Fin cfg0.N) (a : Fin 256) (b : Fin 2048) : (show Vec Ideal S256x2048 .f32 from iblk m c 0 t) (ix2 a b) = A0 m c (ix2 (grow t a) b) := by
  blk_point [iblk, V_main_arg0, idx t]; unfold grow; rfl
theorem blk1 (c : Dev nD) (t : Fin cfg0.N) (a : Fin 256) (b : Fin 2048) : (show Vec Ideal S256x2048 .f32 from iblk m c 1 t) (ix2 a b) = A1 m c (ix2 (grow t a) b) := by
  blk_point [iblk, V_main_arg1, idx t]; unfold grow; rfl
theorem blk2 (c : Dev nD) (t : Fin cfg0.N) (b : Fin 2048) : (show Vec Ideal S1x2048 .f32 from iblk m c 2 t) (ix2 0 b) = A2 m c (ix2 0 b) := by
  blk_point [iblk, V_main_arg2, idx t]
theorem blk3 (c : Dev nD) (t : Fin cfg0.N) (b : Fin 2048) : (show Vec Ideal S1x2048 .f32 from iblk m c 3 t) (ix2 0 b) = A3 m c (ix2 0 b) := by
  blk_point [iblk, V_main_arg3, idx t]
theorem blk4 (c : Dev nD) (t : Fin cfg0.N) (a b : Fin 2048) : (show Vec Ideal S2048x2048 .bf16 from iblk m c 4 t) (ix2 a b) = A4 m c (ix2 a b) := by
  blk_point [iblk, V_w, idx t]
theorem blk5 (c : Dev nD) (t : Fin cfg0.N) (a : Fin 256) (b : Fin 2048) : (show Vec Ideal S256x2048 .bf16 from iblk m c 5 t) (ix2 a b) = A5 m c (ix2 (grow t a) ⟨b.val, by omega⟩) := by
  blk_point [iblk, V_main_arg5, idx t]; unfold grow; rfl
theorem blk6 (c : Dev nD) (t : Fin cfg0.N) (a : Fin 256) (b : Fin 2048) : (show Vec Ideal S256x2048 .bf16 from iblk m c 6 t) (ix2 a b) = A5 m c (ix2 (grow t a) ⟨2048 + b.val, by omega⟩) := by
  blk_point [iblk, V_main_arg5, idx t]; unfold grow; rfl
theorem blk7 (c : Dev nD) (t : Fin cfg0.N) (a : Fin 256) (b : Fin 2048) : (show Vec Ideal S256x2048 .bf16 from iblk m c 7 t) (ix2 a b) = A6 m c (ix2 (grow t a) b) := by
  blk_point [iblk, V_main_arg6, idx t]; unfold grow; rfl
theorem blk8 (c : Dev nD) (t : Fin cfg0.N) (a : Fin 256) (b : Fin 2048) : (show Vec Ideal S256x2048 .bf16 from iblk m c 8 t) (ix2 a b) = A7 m c (ix2 (grow t a) b) := by
  blk_point [iblk, V_main_arg7, idx t]; unfold grow; rfl

/-- The block of gradients at the projected rows that a point leaves. -/
abbrev dblk (c : Dev nD) (t : Fin cfg0.N) : FVec Ideal S256x2048 .bf16 := k0_pay6 (iblk m c 1 t) (iblk m c 0 t) (iblk m c 2 t) (iblk m c 3 t)
theorem dblk_at (c : Dev nD) (t : Fin cfg0.N) (a : Fin 256) (b : Fin 2048) :
    dblk m c t (ix2 a b) = DO (A0 m c) (A1 m c) (A2 m c) (A3 m c) (grow t a) b := by
  refine (pay6_at _ _ _ _ a b).trans ?_
  have e1 : (fun k => (show Vec Ideal S256x2048 .f32 from iblk m c 1 t) (ix2 a k)) = row (A1 m c) (grow t a) := funext fun k => blk1 m c t a k
  have e0 : (fun k => (show Vec Ideal S256x2048 .f32 from iblk m c 0 t) (ix2 a k)) = row (A0 m c) (grow t a) := funext fun k => blk0 m c t a k
  have e2 : (fun k => (show Vec Ideal S1x2048 .f32 from iblk m c 2 t) (ix2 0 k)) = vec (A2 m c) := funext fun k => blk2 m c t k
  have e3 : (fun k => (show Vec Ideal S1x2048 .f32 from iblk m c 3 t) (ix2 0 k)) = vec (A3 m c) := funext fun k => blk3 m c t k
  exact congr (congrArg₂ dout e1 (by rw [e0, e2, e3])) rfl
theorem dm_at (c : Dev nD) (t : Fin cfg0.N) (a : Fin 256) (b : Fin 2048) :
    (∑ k : Fin 2048, dblk m c t (ix2 a k) * (show Vec Ideal S2048x2048 .bf16 from iblk m c 4 t) (ix2 b k))
      = DM (A0 m c) (A1 m c) (A2 m c) (A3 m c) (A4 m c) (grow t a) b :=
  Finset.sum_congr rfl fun k _ => congrArg₂ (· * ·) (dblk_at m c t a k) (blk4 m c t b k)

/-- What a point leaves in the four blocks it writes whole. -/
theorem out9 (c : Dev nD) (t : Fin cfg0.N) : (outsAt0 m c t.val t.isLt).1 = dblk m c t := by
  by_cases h : t.val % 32 = 0
  · rw [outsAt0_A m c t h (by have := lt_of_lt_of_eq t.isLt N_0; omega)]; frame_out
  · rw [outsAt0_B m c t h (by omega)]; frame_out
theorem out10 (c : Dev nD) (t : Fin cfg0.N) : (outsAt0 m c t.val t.isLt).2.1 = k0_pay14 (dblk m c t) (iblk m c 4 t) (iblk m c 5 t) := by
  by_cases h : t.val % 32 = 0
  · rw [outsAt0_A m c t h (by have := lt_of_lt_of_eq t.isLt N_0; omega)]; frame_out
  · rw [outsAt0_B m c t h (by omega)]; frame_out
theorem out11 (c : Dev nD) (t : Fin cfg0.N) : (outsAt0 m c t.val t.isLt).2.2.1 = k0_pay15 (dblk m c t) (iblk m c 4 t) (iblk m c 6 t) := by
  by_cases h : t.val % 32 = 0
  · rw [outsAt0_A m c t h (by have := lt_of_lt_of_eq t.isLt N_0; omega)]; frame_out
  · rw [outsAt0_B m c t h (by omega)]; frame_out
/-- Two stores side by side, read in the left and in the right half. -/
theorem halves (P Q : Vec Ideal S256x2048 .bf16) (a : Fin 256) (b : Fin 2048) :
    (View.canon [⟨Rect.unit ![0, 2048] ![256, 2048] inb_S256x4096_S256x2048_0_2048, Q⟩,
      ⟨Rect.unit ![0, 0] ![256, 2048] inb_S256x4096_S256x2048_0_0, P⟩] : Vec Ideal S256x4096 .bf16) (ix2 a (⟨b.val, by omega⟩ : Fin 4096)) = P (ix2 a b)
    ∧ (View.canon [⟨Rect.unit ![0, 2048] ![256, 2048] inb_S256x4096_S256x2048_0_2048, Q⟩,
      ⟨Rect.unit ![0, 0] ![256, 2048] inb_S256x4096_S256x2048_0_0, P⟩] : Vec Ideal S256x4096 .bf16) (ix2 a (⟨2048 + b.val, by omega⟩ : Fin 4096)) = Q (ix2 a b) := by
  constructor
  · canon_tiles x h
    · have h1' : b.val = 2048 + (x 1).val := h1
      omega
    · exact congrArg P (by funext q; fin_cases q; exact Fin.ext h0.symm; exact Fin.ext h1.symm)
  · canon_tiles x h
    · have h1' : 2048 + b.val = 2048 + (x 1).val := h1
      exact congrArg Q (by funext q; fin_cases q; exact Fin.ext h0.symm; exact Fin.ext (show (x 1).val = b.val by omega))
    · have h1' : 2048 + b.val = (x 1).val := h1
      omega
theorem out12 (c : Dev nD) (t : Fin cfg0.N) (a : Fin 256) (b : Fin 2048) :
    (outsAt0 m c t.val t.isLt).2.2.2.1 (ix2 a (⟨b.val, by omega⟩ : Fin 4096))
      = k0_pay1 (k0_pay12 (iblk m c 5 t)) (k0_pay16 (dblk m c t) (iblk m c 4 t) (iblk m c 7 t)) (ix2 a b)
    ∧ (outsAt0 m c t.val t.isLt).2.2.2.1 (ix2 a (⟨2048 + b.val, by omega⟩ : Fin 4096))
      = k0_pay2 (k0_pay11 (dblk m c t) (iblk m c 4 t)) (k0_pay13 (iblk m c 6 t)) (iblk m c 8 t) (ix2 a b) := by
  by_cases h : t.val % 32 = 0
  · rw [outsAt0_A m c t h (by have := lt_of_lt_of_eq t.isLt N_0; omega)]; frame_out; exact halves _ _ a b
  · rw [outsAt0_B m c t h (by omega)]; frame_out; exact halves _ _ a b

/-- The gradient at the projected rows. -/
theorem final9 (c : Dev nD) : (dats m 0 c).arrAt 9 (cfgs 0).N
    = Cert.GateBwdRefIdeal.Read.val_main_v76 (F := Ideal) (A0 m c) (A1 m c) (A2 m c) (A3 m c) := by
  refine (dats m 0 c).arrAt_eq_of_covers 9 _ (by decide +kernel) fun t hf y => ?_
  blk_simp
  rw [after0_9, out9]
  obtain ⟨a, b, rfl⟩ : ∃ (a : Fin 256) (b : Fin 2048), y = ix2 a b := ⟨y 0, y 1, by funext q; fin_cases q <;> rfl⟩
  have e : ((cfg0.win 9).blk t).view.emb (ix2 a b) = (ix2 (grow t a) b : S8192x2048.Idx) := by
    unfold grow; blk_ext [idx t]
  rw [e, Cert.GateBwdRefIdeal.Hand.do_at]
  exact dblk_at m c t a b

/-- The gradients at the two projections. -/
theorem final10 (c : Dev nD) : (dats m 0 c).arrAt 10 (cfgs 0).N
    = Cert.GateBwdRefIdeal.Read.val_main_v77 (F := Ideal) (A0 m c) (A1 m c) (A2 m c) (A3 m c) (A4 m c) (A5 m c) := by
  refine (dats m 0 c).arrAt_eq_of_covers 10 _ (by decide +kernel) fun t hf y => ?_
  blk_simp
  rw [after0_10, out10]
  obtain ⟨a, b, rfl⟩ : ∃ (a : Fin 256) (b : Fin 2048), y = ix2 a b := ⟨y 0, y 1, by funext q; fin_cases q <;> rfl⟩
  have e : ((cfg0.win 10).blk t).view.emb (ix2 a b) = (ix2 (grow t a) b : S8192x2048.Idx) := by
    unfold grow; blk_ext [idx t]
  rw [e, Cert.GateBwdRefIdeal.Hand.dpa_at]
  exact (pay14_at _ _ _ a b).trans (congrArg₂ (· * ·) (dm_at m c t a b) (congrArg sg (blk5 m c t a b)))
theorem final11 (c : Dev nD) : (dats m 0 c).arrAt 11 (cfgs 0).N
    = Cert.GateBwdRefIdeal.Read.val_main_v78 (F := Ideal) (A0 m c) (A1 m c) (A2 m c) (A3 m c) (A4 m c) (A5 m c) := by
  refine (dats m 0 c).arrAt_eq_of_covers 11 _ (by decide +kernel) fun t hf y => ?_
  blk_simp
  rw [after0_11, out11]
  obtain ⟨a, b, rfl⟩ : ∃ (a : Fin 256) (b : Fin 2048), y = ix2 a b := ⟨y 0, y 1, by funext q; fin_cases q <;> rfl⟩
  have e : ((cfg0.win 11).blk t).view.emb (ix2 a b) = (ix2 (grow t a) b : S8192x2048.Idx) := by
    unfold grow; blk_ext [idx t]
  rw [e, Cert.GateBwdRefIdeal.Hand.dpb_at]
  exact (pay15_at _ _ _ a b).trans (congrArg₂ (· * ·) (dm_at m c t a b) (congrArg sg (blk6 m c t a b)))

/-- The reference's gradients at the gates' inputs, as the columns of the wide array the kernel writes into. -/
abbrev RP (c : Dev nD) : FVec Ideal S8192x4096 .bf16 :=
  Cert.GateBwdRefIdeal.Read.val_main_v80 (F := Ideal) (A0 m c) (A1 m c) (A2 m c) (A3 m c) (A4 m c) (A5 m c) (A6 m c) (A7 m c)
abbrev RG (c : Dev nD) : FVec Ideal S8192x10240 .bf16 :=
  fun i => if h : (i 1).val < 4096 then RP m c (ix2 (i 0) ⟨(i 1).val, h⟩) else (0 : EReal)
/-- The wide array: its first 4096 columns are those gradients, the others stay as they were. -/
theorem final12 (c : Dev nD) : (dats m 0 c).arrAt 12 (cfgs 0).N
    = fun i : S8192x10240.Idx => if (i 1).val < 4096 then RG m c i else V m c main_v1_3 i := by
  refine (dats m 0 c).arrAt_eq_of_coversWhere 12 (RG m c)
    (fun β => β (1 : Fin 2) < 1) (by decide +kernel) (fun t hf y => ?_) (fun j => by blk_simp [Pipeline.Window.cell_apply]; exact (Nat.div_lt_one_iff (by decide)).symm)
  blk_simp
  rw [after0_12]
  obtain ⟨a, b, hy⟩ : ∃ (a : Fin 256) (b : Fin 4096), (cfg0.win 12).xinj (cfg0.grid.coords t) y = ix2 a b :=
    ⟨(cfg0.win 12).xinj (cfg0.grid.coords t) y 0, (cfg0.win 12).xinj (cfg0.grid.coords t) y 1, by funext q; fin_cases q <;> rfl⟩
  have ha : (y 0).val = a.val := congrArg Fin.val (congrFun hy 0)
  have hb : (y 1).val = b.val := congrArg Fin.val (congrFun hy 1)
  have e : ((cfg0.win 12).blk t).view.emb y = (ix2 (grow t a) (⟨b.val, by omega⟩ : Fin 10240) : S8192x10240.Idx) := by
    unfold grow; blk_ext [idx t, ha, hb]
  rw [e, hy]
  refine Eq.trans ?_ (dif_pos b.isLt).symm
  show _ = RP m c (ix2 (grow t a) b)
  by_cases hb : b.val < 2048
  · refine (out12 m c t a ⟨b.val, hb⟩).1.trans ((pay1_at _ _ _ _ a _).trans (Eq.trans ?_ (Cert.GateBwdRefIdeal.Hand.lo_at _ _ _ _ _ _ _ _ (grow t a) ⟨b.val, hb⟩).symm))
    exact congr (congr (congrArg dz (dm_at m c t a _)) (blk7 m c t a _)) (blk5 m c t a _)
  · obtain ⟨k, hk⟩ : ∃ k : Fin 2048, b = (⟨2048 + k.val, by clear * -; omega⟩ : Fin 4096) := ⟨⟨b.val - 2048, by clear * - hb; omega⟩, Fin.ext (by dsimp only; omega)⟩
    rw [hk]
    refine (out12 m c t a k).2.trans ((pay2_at _ _ _ _ a _).trans (Eq.trans ?_ (Cert.GateBwdRefIdeal.Hand.hi_at _ _ _ _ _ _ _ _ (grow t a) k).symm))
    exact congr (congr (congrArg dz (dm_at m c t a _)) (blk8 m c t a _)) (blk6 m c t a _)

/-- A row of sums the points add to, after the last: the sum over all the rows. -/
theorem total (f : (n : ℕ) → n < cfg0.N → Vec Ideal S1x2048 .f32) (T : Fin 8192 → Fin 2048 → EReal)
    (first : ∀ t : Fin cfg0.N, t.val % 32 = 0 → ∀ b, f t.val t.isLt (ix2 0 b) = ∑ r : Fin 256, T (grow t r) b)
    (add : ∀ t : Fin cfg0.N, ¬ t.val % 32 = 0 → ∀ b, f t.val t.isLt (ix2 0 b)
      = f (t.val - 1) (Nat.lt_of_le_of_lt (Nat.sub_le _ _) t.isLt) (ix2 0 b) + ∑ r : Fin 256, T (grow t r) b)
    (t : Fin cfg0.N) (h : t.val % 32 = 31) (b : Fin 2048) : f t.val t.isLt (ix2 0 b) = ∑ r, T r b := by
  have hj : ∀ j : S1x2048.Idx, ∃ b : Fin 2048, j = ix2 0 b := fun j => ⟨j 1, by funext q; fin_cases q; exact Subsingleton.elim (α := Fin 1) _ _; rfl⟩
  have s := Pipeline.eq_sum_fin_of_reset_step_apply_of_flush f 32 (fun _ => 0) (fun p j => ∑ r : Fin 256, T (grow p r) (j 1))
    (fun t h j => by obtain ⟨b, rfl⟩ := hj j; exact (first t h b).trans (zero_add _).symm)
    (fun t h j => by obtain ⟨b, rfl⟩ := hj j; exact add t h b) t h (ix2 0 b)
  rw [s, zero_add]
  have ht : t.val < 32 := lt_of_lt_of_eq t.isLt N_0
  refine Fin.sum_mul_add_congr (f := fun r : Fin 8192 => T r b) fun s k hl => ?_
  refine congrArg (T · b) (Fin.ext ?_)
  unfold grow; dsimp only; omega

/-- What a point adds to the two rows of sums. -/
theorem dgate_blk (c : Dev nD) (t : Fin cfg0.N) (b : Fin 2048) : k0_pay7 (iblk m c 1 t) (iblk m c 0 t) (iblk m c 2 t) (ix2 0 b)
    = ∑ r : Fin 256, A0 m c (ix2 (grow t r) b) * ((A1 m c (ix2 (grow t r) b) * rs (row (A1 m c) (grow t r))) * A2 m c (ix2 0 b)) := by
  refine (pay7_at _ _ _ b).trans (Finset.sum_congr rfl fun r _ => ?_)
  have e1 : (fun k => (show Vec Ideal S256x2048 .f32 from iblk m c 1 t) (ix2 r k)) = row (A1 m c) (grow t r) := funext fun k => blk1 m c t r k
  exact congrArg₂ (· * ·) (blk0 m c t r b) (congrArg₂ (· * ·) (congrArg₂ (· * ·) (blk1 m c t r b) (congrArg rs e1)) (blk2 m c t b))
theorem dgain_blk (c : Dev nD) (t : Fin cfg0.N) (b : Fin 2048) : k0_pay8 (iblk m c 1 t) (iblk m c 0 t) (iblk m c 3 t) (ix2 0 b)
    = ∑ r : Fin 256, (A0 m c (ix2 (grow t r) b) * A3 m c (ix2 0 b)) * (A1 m c (ix2 (grow t r) b) * rs (row (A1 m c) (grow t r))) := by
  refine (pay8_at _ _ _ b).trans (Finset.sum_congr rfl fun r _ => ?_)
  have e1 : (fun k => (show Vec Ideal S256x2048 .f32 from iblk m c 1 t) (ix2 r k)) = row (A1 m c) (grow t r) := funext fun k => blk1 m c t r k
  exact congrArg₂ (· * ·) (congrArg₂ (· * ·) (blk0 m c t r b) (blk3 m c t b)) (congrArg₂ (· * ·) (blk1 m c t r b) (congrArg rs e1))

/-- The gate's gradient. -/
theorem final13 (c : Dev nD) : (dats m 0 c).arrAt 13 (cfgs 0).N
    = Cert.GateBwdRefIdeal.Read.val_main_v21 (F := Ideal) (A0 m c) (A1 m c) (A2 m c) := by
  refine (dats m 0 c).arrAt_eq_of_covers 13 _ (by decide +kernel) fun t hf y => ?_
  have h := (flush0_13 t).mp hf
  blk_simp
  rw [after0_13]
  obtain ⟨a, b, rfl⟩ : ∃ (a : Fin 1) (b : Fin 2048), y = ix2 a b := ⟨y 0, y 1, by funext q; fin_cases q <;> rfl⟩
  obtain rfl : a = 0 := Subsingleton.elim _ _
  have e : ((cfg0.win 13).blk t).view.emb (ix2 0 b) = (ix2 0 b : S1x2048.Idx) := by
    blk_ext [idx t]
  rw [e, Cert.GateBwdRefIdeal.Hand.dgate_at]
  refine total (fun n h => (outsAt0 m c n h).2.2.2.2.1)
    (fun r b => A0 m c (ix2 r b) * ((A1 m c (ix2 r b) * rs (row (A1 m c) r)) * A2 m c (ix2 0 b))) (fun t h b => ?_) (fun t h b => ?_) t h b
  · show _ = _
    rw [outsAt0_A m c t h (by have := lt_of_lt_of_eq t.isLt N_0; omega)]; frame_out; exact dgate_blk m c t b
  · show _ = _
    rw [outsAt0_B m c t h (by omega)]; frame_out
    exact (pay9_at _ _ b).trans (congrArg (_ + ·) (dgate_blk m c t b))

/-- The gain's gradient. -/
theorem final14 (c : Dev nD) : (dats m 0 c).arrAt 14 (cfgs 0).N
    = Cert.GateBwdRefIdeal.Read.val_main_v24 (F := Ideal) (A0 m c) (A1 m c) (A3 m c) := by
  refine (dats m 0 c).arrAt_eq_of_covers 14 _ (by decide +kernel) fun t hf y => ?_
  have h := (flush0_14 t).mp hf
  blk_simp
  rw [after0_14]
  obtain ⟨a, b, rfl⟩ : ∃ (a : Fin 1) (b : Fin 2048), y = ix2 a b := ⟨y 0, y 1, by funext q; fin_cases q <;> rfl⟩
  obtain rfl : a = 0 := Subsingleton.elim _ _
  have e : ((cfg0.win 14).blk t).view.emb (ix2 0 b) = (ix2 0 b : S1x2048.Idx) := by
    blk_ext [idx t]
  rw [e, Cert.GateBwdRefIdeal.Hand.dgain_at]
  refine total (fun n h => (outsAt0 m c n h).2.2.2.2.2)
    (fun r b => (A0 m c (ix2 r b) * A3 m c (ix2 0 b)) * (A1 m c (ix2 r b) * rs (row (A1 m c) r))) (fun t h b => ?_) (fun t h b => ?_) t h b
  · show _ = _
    rw [outsAt0_A m c t h (by have := lt_of_lt_of_eq t.isLt N_0; omega)]; frame_out; exact dgain_blk m c t b
  · show _ = _
    rw [outsAt0_B m c t h (by omega)]; frame_out
    exact (pay10_at _ _ b).trans (congrArg (_ + ·) (dgain_blk m c t b))

end Cert.GateBwdIdeal.Hand
end
-- ==== Proof.GateBwdClaim.lean ====
module

public import proofs.«01_k».proof.Proof.GateBwdValue

/-! The claim of the backward call through the gated norm and the gated sum. -/

@[expose] public section
set_option maxRecDepth 16384
noncomputable section

namespace Cert.GateBwdRefIdeal.Hand
open Cert.GateBwdRefIdeal Idealize.ShloMosaic Idealize.ShloMosaic.TcCoe Idealize.SL.Sem

/-- The reference's run, its six results read as functions of its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v76) = Read.val_main_v76 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v77) = Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v78) = Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v80) = Read.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v21) = Read.val_main_v21 (F := Ideal) (m ((c.tc : Thread nD τ).loc main_arg0)) (m ((c.tc : Thread nD τ).loc main_arg1)) (m ((c.tc : Thread nD τ).loc main_arg2))
      ∧ r.2.mem ((c.tc : Thread nD τ).loc main_v24) = Read.val_main_v24 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (Read.val_main_v76_eq m c), (h c).2.1.trans (Read.val_main_v77_eq m c), (h c).2.2.1.trans (Read.val_main_v78_eq m c),
    (h c).2.2.2.1.trans (Read.val_main_v80_eq m c), (h c).2.2.2.2.1.trans (Read.val_main_v21_eq _ _ _), (h c).2.2.2.2.2.1.trans (Read.val_main_v24_eq _ _ _), (h c).2.2.2.2.2.2⟩) (Value.run m ρ)

end Cert.GateBwdRefIdeal.Hand

namespace Cert.GateBwdIdeal.Hand
open Cert.GateBwdIdeal Cert.GateBwdIdeal.Gen Idealize.ShloMosaic Idealize.ShloMosaic.TcCoe Idealize.SL.Sem

/-- The first 4096 columns of the wide array, which the host takes: the reference's gradients. -/
theorem final_cols (m : (ℓ : Loc nD τ sig) → Buf (Elt Ideal) ℓ) (c : Dev nD) :
    (extractStridedSlice S8192x4096 ![0, 0] ((dats m 0 c).arrAt 12 (cfgs 0).N : (⟨S8192x10240, .bf16⟩ : BufTy).Contents (Elt Ideal)) slices_S8192x10240_S8192x4096_0_0 : (⟨S8192x4096, .bf16⟩ : BufTy).Contents (Elt Ideal)) = RP m c := by
  rw [final12]
  refine funext fun y => ?_
  obtain ⟨a, b, rfl⟩ : ∃ (a : Fin 8192) (b : Fin 4096), y = ix2 a b := ⟨y 0, y 1, by funext q; fin_cases q <;> rfl⟩
  have e (X : (⟨S8192x10240, .bf16⟩ : BufTy).Contents (Elt Ideal)) : extractStridedSlice S8192x4096 ![0, 0] X slices_S8192x10240_S8192x4096_0_0 (ix2 a b) = X (ix2 a (⟨b.val, by omega⟩ : Fin 10240)) := by
    pointwise []
  rw [e]
  exact (if_pos b.isLt).trans (dif_pos b.isLt)

/-- What the host holds after the call: the columns it takes from the wide array. -/
theorem tail_cols (m : (ℓ : Loc nD τ sig) → Buf (Elt Ideal) ℓ) (c : Dev nD) :
    Pipeline.afterTail₀ cfgs (dats m) 0 (V0 m) [hostOps1] c main_v2
      = extractStridedSlice S8192x4096 ![0, 0] ((dats m 0 c).arrAt 12 (cfgs 0).N : (⟨S8192x10240, .bf16⟩ : BufTy).Contents (Elt Ideal)) slices_S8192x10240_S8192x4096_0_0 := by
  unfold Pipeline.afterTail₀
  simp only [hostOps1, List.flatten_cons, List.flatten_nil, List.append_nil, StableHlo.after_cons, StableHlo.after_nil]
  rw [StableHlo.unary_result]
  refine congrArg (fun X : (⟨S8192x10240, .bf16⟩ : BufTy).Contents (Elt Ideal) => extractStridedSlice S8192x4096 ![0, 0] X slices_S8192x10240_S8192x4096_0_0) ?_
  exact (dats m 0 c).withArrays_arrAt sharedIn0 _ (A_eq m c) 12

end Cert.GateBwdIdeal.Hand

namespace Cert.Proof
open Idealize.ShloMosaic Idealize.ShloMosaic.TcCoe Idealize.SL.Sem

set_option maxHeartbeats 1000000 in
/-- The kernel's six results are the reference's, over the reals extended by the infinities. -/
theorem algebraic_GateBwd : Cert.algebraic_GateBwdIdeal_GateBwdRefIdeal := by
  intro m g m' g' _ hagree
  refine ⟨fun c => Cert.GateBwdRefIdeal.Read.val_main_v76 (F := Ideal) (Cert.GateBwdIdeal.Hand.A0 m c) (Cert.GateBwdIdeal.Hand.A1 m c) (Cert.GateBwdIdeal.Hand.A2 m c) (Cert.GateBwdIdeal.Hand.A3 m c),
    fun c => Cert.GateBwdRefIdeal.Read.val_main_v77 (F := Ideal) (Cert.GateBwdIdeal.Hand.A0 m c) (Cert.GateBwdIdeal.Hand.A1 m c) (Cert.GateBwdIdeal.Hand.A2 m c) (Cert.GateBwdIdeal.Hand.A3 m c) (Cert.GateBwdIdeal.Hand.A4 m c) (Cert.GateBwdIdeal.Hand.A5 m c),
    fun c => Cert.GateBwdRefIdeal.Read.val_main_v78 (F := Ideal) (Cert.GateBwdIdeal.Hand.A0 m c) (Cert.GateBwdIdeal.Hand.A1 m c) (Cert.GateBwdIdeal.Hand.A2 m c) (Cert.GateBwdIdeal.Hand.A3 m c) (Cert.GateBwdIdeal.Hand.A4 m c) (Cert.GateBwdIdeal.Hand.A5 m c),
    fun c => Cert.GateBwdRefIdeal.Read.val_main_v80 (F := Ideal) (Cert.GateBwdIdeal.Hand.A0 m c) (Cert.GateBwdIdeal.Hand.A1 m c) (Cert.GateBwdIdeal.Hand.A2 m c) (Cert.GateBwdIdeal.Hand.A3 m c) (Cert.GateBwdIdeal.Hand.A4 m c) (Cert.GateBwdIdeal.Hand.A5 m c) (Cert.GateBwdIdeal.Hand.A6 m c) (Cert.GateBwdIdeal.Hand.A7 m c),
    fun c => Cert.GateBwdRefIdeal.Read.val_main_v21 (F := Ideal) (Cert.GateBwdIdeal.Hand.A0 m c) (Cert.GateBwdIdeal.Hand.A1 m c) (Cert.GateBwdIdeal.Hand.A2 m c),
    fun c => Cert.GateBwdRefIdeal.Read.val_main_v24 (F := Ideal) (Cert.GateBwdIdeal.Hand.A0 m c) (Cert.GateBwdIdeal.Hand.A1 m c) (Cert.GateBwdIdeal.Hand.A3 m c), ?_, ?_⟩
  · run_from Cert.GateBwdIdeal.Gen.run_main m g
    · exact Cert.GateBwdIdeal.Hand.final9 m c
    · exact Cert.GateBwdIdeal.Hand.final10 m c
    · exact Cert.GateBwdIdeal.Hand.final11 m c
    · exact (Cert.GateBwdIdeal.Hand.tail_cols m c).trans (Cert.GateBwdIdeal.Hand.final_cols m c)
    · exact Cert.GateBwdIdeal.Hand.final13 m c
    · exact Cert.GateBwdIdeal.Hand.final14 m c
    · exact Cert.GateBwdIdeal.Gen.W_main_arg4 m (Cert.GateBwdIdeal.Gen.dats m) c
  · refine (θ_run Cert.GateBwdRefIdeal.defs _ _).mono (fun r h c => ?_) (Cert.GateBwdRefIdeal.Hand.run m' g')
    obtain ⟨h76, h77, h78, h80, h21, h24, hargs⟩ := h c
    obtain ⟨e0, e1, e2, e3, e4, e5, e6, e7⟩ := hagree c
    rw [e0, e1, e2, e3] at h76
    rw [e0, e1, e2, e3, e4, e5] at h77
    rw [e0, e1, e2, e3, e4, e5] at h78
    rw [e0, e1, e2, e3, e4, e5, e6, e7] at h80
    rw [e0, e1, e2] at h21
    rw [e0, e1, e3] at h24
    exact ⟨h76, h77, h78, h80, h21, h24, hargs⟩

end Cert.Proof

end
-- ==== Proof.InDwValue.lean ====
module

public import proofs.«01_k».proof.Proof.Gen.InDwIdeal.Frame
public import proofs.«01_k».proof.Proof.Gen.InDwRefIdeal.Run
public import proofs.«01_k».proof.Proof.Gen.InDwRefIdeal.Read
public import proofs.«01_k».proof.Defs
public import Idealize.ShloMosaic.Lib.Pipeline.ValueKit
public import Idealize.ShloMosaic.Lib.Pointwise
public import Idealize.ShloMosaic.Lib.Claim

/-! The gradient of the in-projection's weight: the kernel's row blocks added up are the whole contraction. -/

@[expose] public section
set_option maxRecDepth 16384
noncomputable section
namespace Cert.InDwIdeal.Hand
open Cert.InDwIdeal Cert.InDwIdeal.Gen Idealize.ShloMosaic Idealize.ShloMosaic.TcCoe Idealize.SL.Sem
open Idealize.ShloMosaic.Pipeline (Dat)

variable (m : (ℓ : Loc nD τ sig) → Buf (Elt Ideal) ℓ)

/-- One block's product: rows `k` of the two blocks contracted. -/
theorem pay1_at (x0 : Vec Ideal S2048x2048 .bf16) (x1 : Vec Ideal S2048x1024 .bf16) (a : Fin 2048) (b : Fin 1024) :
    k0_pay1 x0 x1 (ix2 a b) = ∑ k : Fin 2048, x0 (ix2 k a) * x1 (ix2 k b) := by
  unfold_payloads; pointwise [dot_S2048x2048_S2048x1024_S2048x1024_0_0_1_1_n_n]
theorem pay2_at (x0 : Vec Ideal S2048x2048 .bf16) (x1 : Vec Ideal S2048x1024 .bf16) (j : S2048x1024.Idx) :
    k0_pay2 x0 x1 j = 0 + ∑ k : Fin 2048, x0 (ix2 k (j 0)) * x1 (ix2 k (j 1)) := by
  obtain ⟨a, b, rfl⟩ : ∃ (a : Fin 2048) (b : Fin 1024), j = ix2 a b := ⟨j 0, j 1, by funext q; fin_cases q <;> rfl⟩
  rw [zero_add]; unfold k0_pay2; pointwise; rw [pay1_at]
theorem pay3_at (x0 : Vec Ideal S2048x2048 .bf16) (x1 : Vec Ideal S2048x1024 .bf16) (v : Vec Ideal S2048x1024 .f32) (j : S2048x1024.Idx) :
    k0_pay3 x0 x1 v j = v j + ∑ k : Fin 2048, x0 (ix2 k (j 0)) * x1 (ix2 k (j 1)) := by
  obtain ⟨a, b, rfl⟩ : ∃ (a : Fin 2048) (b : Fin 1024), j = ix2 a b := ⟨j 0, j 1, by funext q; fin_cases q <;> rfl⟩
  unfold k0_pay3; pointwise; rw [pay1_at]
theorem pay4_at (v : Vec Ideal S2048x1024 .f32) (j : S2048x1024.Idx) : k0_pay4 v j = v j := by
  obtain ⟨a, b, rfl⟩ : ∃ (a : Fin 2048) (b : Fin 1024), j = ix2 a b := ⟨j 0, j 1, by funext q; fin_cases q <;> rfl⟩
  unfold k0_pay4; pointwise

/-- The reference's result over the kernel's argument arrays. -/
abbrev REF (X0 : FVec Ideal S8192x2048 .bf16) (X1 : FVec Ideal S8192x10240 .bf16) : FVec Ideal S2048x10240 .bf16 :=
  Cert.InDwRefIdeal.Read.val_main_v6 (F := Ideal) X0 X1

/-- The reference's weight gradient at an entry: all 8192 rows contracted. -/
theorem ref_at (X0 : FVec Ideal S8192x2048 .bf16) (X1 : FVec Ideal S8192x10240 .bf16) (a : Fin 2048) (b : Fin 10240) :
    REF X0 X1 (ix2 a b) = ∑ k : Fin 8192, X0 (ix2 k a) * X1 (ix2 k b) := by
  show Cert.InDwRefIdeal.Read.val_main_v5 (F := Ideal) X0 X1 (ix2 a b) = _
  rw [Cert.InDwRefIdeal.Read.val_main_v5_apply, Cert.InDwRefIdeal.Read.val_main_v4_apply]
  refine Finset.sum_congr rfl fun k _ => ?_
  rw [mul_comm]
  refine congrArg₂ (· * ·) (congrArg X0 ?_) (congrArg X1 ?_) <;> (funext q; fin_cases q <;> rfl)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

set_option maxHeartbeats 1000000 in
/-- What the accumulator holds when a column block's last row block is done: all four row blocks' products. -/
theorem acc (c : Dev nD) (t : Fin cfg0.N) (h : t.val % 4 = 3) (j : S2048x1024.Idx) :
    (outsAt0 m c t.val t.isLt).2 j = 0 + ∑ s : Fin 4, ∑ k : Fin 2048,
      (show Vec Ideal S2048x2048 .bf16 from iblk m c 0 ⟨4 * (t.val / 4) + s.val, Pipeline.run_point_lt_of_flush t h s⟩) (ix2 k (j 0))
      * (show Vec Ideal S2048x1024 .bf16 from iblk m c 1 ⟨4 * (t.val / 4) + s.val, Pipeline.run_point_lt_of_flush t h s⟩) (ix2 k (j 1)) := by
  exact Pipeline.eq_sum_fin_of_reset_step_apply_of_flush (fun n h => (outsAt0 m c n h).2) 4 (fun _ => 0)
    (fun p j => ∑ k : Fin 2048, (show Vec Ideal S2048x2048 .bf16 from iblk m c 0 p) (ix2 k (j 0)) * (show Vec Ideal S2048x1024 .bf16 from iblk m c 1 p) (ix2 k (j 1)))
    (fun t h j => by
      have hN := lt_of_lt_of_eq t.isLt N_0
      rw [outsAt0_A m c t h (by omega) (by omega)]; frame_out; exact pay2_at _ _ j)
    (fun t h j => by
      by_cases h3 : t.val % 4 = 3
      · rw [outsAt0_C m c t h (by omega) h3]; frame_out; exact (pay3_at _ _ _ j).trans (congrArg (· + _) (congrFun ((Memref.isWhole_whole cc0_scratch0).read_unread _) j))
      · rw [outsAt0_B m c t h (by omega) h3]; frame_out; exact (pay3_at _ _ _ j).trans (congrArg (· + _) (congrFun ((Memref.isWhole_whole cc0_scratch0).read_unread _) j)))
    t h j

set_option maxHeartbeats 1000000 in
/-- What is written back is the accumulator, rounded. -/
theorem out_acc (c : Dev nD) (t : Fin cfg0.N) (h : t.val % 4 = 3) (j : S2048x1024.Idx) :
    (outsAt0 m c t.val t.isLt).1 j = (outsAt0 m c t.val t.isLt).2 j := by
  rw [outsAt0_C m c t (by omega) (by omega) h]; frame_out; exact pay4_at _ j

set_option maxHeartbeats 1000000 in
/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (out_acc m c t h _).trans ((acc m c t h _).trans ?_)
  obtain ⟨a, b, rfl⟩ : ∃ (a : Fin 2048) (b : Fin 1024), y = ix2 a b := ⟨y 0, y 1, by funext q; fin_cases q <;> rfl⟩
  have ht : t.val < 40 := lt_of_lt_of_eq t.isLt N_0
  have e : ((cfg0.win 2).blk t).view.emb (ix2 a b) = (ix2 a ⟨t.val / 4 * 1024 + b.val, by omega⟩ : S2048x10240.Idx) := by
    blk_ext [idx t]
  rw [e, ref_at, zero_add]
  refine Fin.sum_mul_add_congr fun s k hl => ?_
  blk_point [iblk, V, idx ⟨_, Pipeline.run_point_lt_of_flush t h s⟩]

end Cert.InDwIdeal.Hand

namespace Cert.Proof
open Idealize.ShloMosaic Idealize.ShloMosaic.TcCoe Idealize.SL.Sem

set_option maxHeartbeats 1000000 in
/-- The kernel's result is the reference's, over the reals extended by the infinities. -/
theorem algebraic_InDw : Cert.algebraic_InDwIdeal_InDwRefIdeal := by
  pair_intro
  · run_from Cert.InDwIdeal.Gen.run_main m g
  · run_from Cert.InDwRefIdeal.Value.run m' g'
    exact (Cert.InDwIdeal.Hand.final m c).symm

end Cert.Proof

end
-- ==== Proof.OutDwValue.lean ====
module

public import proofs.«01_k».proof.Proof.Gen.OutDwIdeal.Frame
public import proofs.«01_k».proof.Proof.Gen.OutDwRefIdeal.Run
public import proofs.«01_k».proof.Proof.Gen.OutDwRefIdeal.Read
public import proofs.«01_k».proof.Defs
public import Idealize.ShloMosaic.Lib.Pipeline.ValueKit
public import Idealize.ShloMosaic.Lib.Pointwise
public import Idealize.ShloMosaic.Lib.Claim

/-! The gradient of the out-projection's weight: the kernel's row blocks added up are the whole contraction. -/

@[expose] public section
set_option maxRecDepth 16384
noncomputable section
namespace Cert.OutDwIdeal.Hand
open Cert.OutDwIdeal Cert.OutDwIdeal.Gen Idealize.ShloMosaic Idealize.ShloMosaic.TcCoe Idealize.SL.Sem
open Idealize.ShloMosaic.Pipeline (Dat)

variable (m : (ℓ : Loc nD τ sig) → Buf (Elt Ideal) ℓ)

/-- One block's product: rows `k` of the two blocks contracted. -/
theorem pay1_at (x0 : Vec Ideal S2048x2048 .bf16) (x1 : Vec Ideal S2048x1024 .bf16) (a : Fin 2048) (b : Fin 1024) :
    k0_pay1 x0 x1 (ix2 a b) = ∑ k : Fin 2048, x0 (ix2 k a) * x1 (ix2 k b) := by
  unfold_payloads; pointwise [dot_S2048x2048_S2048x1024_S2048x1024_0_0_1_1_n_n]
theorem pay2_at (x0 : Vec Ideal S2048x2048 .bf16) (x1 : Vec Ideal S2048x1024 .bf16) (j : S2048x1024.Idx) :
    k0_pay2 x0 x1 j = 0 + ∑ k : Fin 2048, x0 (ix2 k (j 0)) * x1 (ix2 k (j 1)) := by
  obtain ⟨a, b, rfl⟩ : ∃ (a : Fin 2048) (b : Fin 1024), j = ix2 a b := ⟨j 0, j 1, by funext q; fin_cases q <;> rfl⟩
  rw [zero_add]; unfold k0_pay2; pointwise; rw [pay1_at]
theorem pay3_at (x0 : Vec Ideal S2048x2048 .bf16) (x1 : Vec Ideal S2048x1024 .bf16) (v : Vec Ideal S2048x1024 .f32) (j : S2048x1024.Idx) :
    k0_pay3 x0 x1 v j = v j + ∑ k : Fin 2048, x0 (ix2 k (j 0)) * x1 (ix2 k (j 1)) := by
  obtain ⟨a, b, rfl⟩ : ∃ (a : Fin 2048) (b : Fin 1024), j = ix2 a b := ⟨j 0, j 1, by funext q; fin_cases q <;> rfl⟩
  unfold k0_pay3; pointwise; rw [pay1_at]
theorem pay4_at (v : Vec Ideal S2048x1024 .f32) (j : S2048x1024.Idx) : k0_pay4 v j = v j := by
  obtain ⟨a, b, rfl⟩ : ∃ (a : Fin 2048) (b : Fin 1024), j = ix2 a b := ⟨j 0, j 1, by funext q; fin_cases q <;> rfl⟩
  unfold k0_pay4; pointwise

/-- The reference's result over the kernel's argument arrays. -/
abbrev REF (X0 : FVec Ideal S8192x2048 .bf16) (X1 : FVec Ideal S8192x2048 .bf16) : FVec Ideal S2048x2048 .bf16 :=
  Cert.OutDwRefIdeal.Read.val_main_v6 (F := Ideal) X0 X1

/-- The reference's weight gradient at an entry: all 8192 rows contracted. -/
theorem ref_at (X0 : FVec Ideal S8192x2048 .bf16) (X1 : FVec Ideal S8192x2048 .bf16) (a : Fin 2048) (b : Fin 2048) :
    REF X0 X1 (ix2 a b) = ∑ k : Fin 8192, X0 (ix2 k a) * X1 (ix2 k b) := by
  show Cert.OutDwRefIdeal.Read.val_main_v5 (F := Ideal) X0 X1 (ix2 a b) = _
  rw [Cert.OutDwRefIdeal.Read.val_main_v5_apply, Cert.OutDwRefIdeal.Read.val_main_v4_apply]
  refine Finset.sum_congr rfl fun k _ => ?_
  rw [mul_comm]
  refine congrArg₂ (· * ·) (congrArg X0 ?_) (congrArg X1 ?_) <;> (funext q; fin_cases q <;> rfl)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

set_option maxHeartbeats 1000000 in
/-- What the accumulator holds when a column block's last row block is done: all four row blocks' products. -/
theorem acc (c : Dev nD) (t : Fin cfg0.N) (h : t.val % 4 = 3) (j : S2048x1024.Idx) :
    (outsAt0 m c t.val t.isLt).2 j = 0 + ∑ s : Fin 4, ∑ k : Fin 2048,
      (show Vec Ideal S2048x2048 .bf16 from iblk m c 0 ⟨4 * (t.val / 4) + s.val, Pipeline.run_point_lt_of_flush t h s⟩) (ix2 k (j 0))
      * (show Vec Ideal S2048x1024 .bf16 from iblk m c 1 ⟨4 * (t.val / 4) + s.val, Pipeline.run_point_lt_of_flush t h s⟩) (ix2 k (j 1)) := by
  exact Pipeline.eq_sum_fin_of_reset_step_apply_of_flush (fun n h => (outsAt0 m c n h).2) 4 (fun _ => 0)
    (fun p j => ∑ k : Fin 2048, (show Vec Ideal S2048x2048 .bf16 from iblk m c 0 p) (ix2 k (j 0)) * (show Vec Ideal S2048x1024 .bf16 from iblk m c 1 p) (ix2 k (j 1)))
    (fun t h j => by
      have hN := lt_of_lt_of_eq t.isLt N_0
      rw [outsAt0_A m c t h (by omega) (by omega)]; frame_out; exact pay2_at _ _ j)
    (fun t h j => by
      by_cases h3 : t.val % 4 = 3
      · rw [outsAt0_C m c t h (by omega) h3]; frame_out; exact (pay3_at _ _ _ j).trans (congrArg (· + _) (congrFun ((Memref.isWhole_whole cc0_scratch0).read_unread _) j))
      · rw [outsAt0_B m c t h (by omega) h3]; frame_out; exact (pay3_at _ _ _ j).trans (congrArg (· + _) (congrFun ((Memref.isWhole_whole cc0_scratch0).read_unread _) j)))
    t h j

set_option maxHeartbeats 1000000 in
/-- What is written back is the accumulator, rounded. -/
theorem out_acc (c : Dev nD) (t : Fin cfg0.N) (h : t.val % 4 = 3) (j : S2048x1024.Idx) :
    (outsAt0 m c t.val t.isLt).1 j = (outsAt0 m c t.val t.isLt).2 j := by
  rw [outsAt0_C m c t (by omega) (by omega) h]; frame_out; exact pay4_at _ j

set_option maxHeartbeats 1000000 in
/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (out_acc m c t h _).trans ((acc m c t h _).trans ?_)
  obtain ⟨a, b, rfl⟩ : ∃ (a : Fin 2048) (b : Fin 1024), y = ix2 a b := ⟨y 0, y 1, by funext q; fin_cases q <;> rfl⟩
  have ht : t.val < 8 := lt_of_lt_of_eq t.isLt N_0
  have e : ((cfg0.win 2).blk t).view.emb (ix2 a b) = (ix2 a ⟨t.val / 4 * 1024 + b.val, by omega⟩ : S2048x2048.Idx) := by
    blk_ext [idx t]
  rw [e, ref_at, zero_add]
  refine Fin.sum_mul_add_congr fun s k hl => ?_
  blk_point [iblk, V, idx ⟨_, Pipeline.run_point_lt_of_flush t h s⟩]

end Cert.OutDwIdeal.Hand

namespace Cert.Proof
open Idealize.ShloMosaic Idealize.ShloMosaic.TcCoe Idealize.SL.Sem

set_option maxHeartbeats 1000000 in
/-- The kernel's result is the reference's, over the reals extended by the infinities. -/
theorem algebraic_OutDw : Cert.algebraic_OutDwIdeal_OutDwRefIdeal := by
  pair_intro
  · run_from Cert.OutDwIdeal.Gen.run_main m g
  · run_from Cert.OutDwRefIdeal.Value.run m' g'
    exact (Cert.OutDwIdeal.Hand.final m c).symm

end Cert.Proof

end
-- ==== Proof.ProjDwValue.lean ====
module

public import proofs.«01_k».proof.Proof.Gen.ProjDwIdeal.Frame
public import proofs.«01_k».proof.Proof.Gen.ProjDwRefIdeal.Run
public import proofs.«01_k».proof.Proof.Gen.ProjDwRefIdeal.Read
public import proofs.«01_k».proof.Defs
public import Idealize.ShloMosaic.Lib.Pipeline.ValueKit
public import Idealize.ShloMosaic.Lib.Pointwise
public import Idealize.ShloMosaic.Lib.Claim

/-! The gradient of a branch projection's weight: the kernel's row blocks added up are the whole contraction. -/

@[expose] public section
set_option maxRecDepth 16384
noncomputable section
namespace Cert.ProjDwIdeal.Hand
open Cert.ProjDwIdeal Cert.ProjDwIdeal.Gen Idealize.ShloMosaic Idealize.ShloMosaic.TcCoe Idealize.SL.Sem
open Idealize.ShloMosaic.Pipeline (Dat)

variable (m : (ℓ : Loc nD τ sig) → Buf (Elt Ideal) ℓ)

/-- One block's product: rows `k` of the two blocks contracted. -/
theorem pay1_at (x0 : Vec Ideal S2048x1024 .bf16) (x1 : Vec Ideal S2048x2048 .bf16) (a : Fin 1024) (b : Fin 2048) :
    k0_pay1 x0 x1 (ix2 a b) = ∑ k : Fin 2048, x0 (ix2 k a) * x1 (ix2 k b) := by
  unfold_payloads; pointwise [dot_S2048x1024_S2048x2048_S1024x2048_0_0_1_1_n_n]
theorem pay2_at (x0 : Vec Ideal S2048x1024 .bf16) (x1 : Vec Ideal S2048x2048 .bf16) (j : S1024x2048.Idx) :
    k0_pay2 x0 x1 j = 0 + ∑ k : Fin 2048, x0 (ix2 k (j 0)) * x1 (ix2 k (j 1)) := by
  obtain ⟨a, b, rfl⟩ : ∃ (a : Fin 1024) (b : Fin 2048), j = ix2 a b := ⟨j 0, j 1, by funext q; fin_cases q <;> rfl⟩
  rw [zero_add]; unfold k0_pay2; pointwise; rw [pay1_at]
theorem pay3_at (x0 : Vec Ideal S2048x1024 .bf16) (x1 : Vec Ideal S2048x2048 .bf16) (v : Vec Ideal S1024x2048 .f32) (j : S1024x2048.Idx) :
    k0_pay3 x0 x1 v j = v j + ∑ k : Fin 2048, x0 (ix2 k (j 0)) * x1 (ix2 k (j 1)) := by
  obtain ⟨a, b, rfl⟩ : ∃ (a : Fin 1024) (b : Fin 2048), j = ix2 a b := ⟨j 0, j 1, by funext q; fin_cases q <;> rfl⟩
  unfold k0_pay3; pointwise; rw [pay1_at]
theorem pay4_at (v : Vec Ideal S1024x2048 .f32) (j : S1024x2048.Idx) : k0_pay4 v j = v j := by
  obtain ⟨a, b, rfl⟩ : ∃ (a : Fin 1024) (b : Fin 2048), j = ix2 a b := ⟨j 0, j 1, by funext q; fin_cases q <;> rfl⟩
  unfold k0_pay4; pointwise

/-- The reference's result over the kernel's argument arrays. -/
abbrev REF (X0 : FVec Ideal S8192x1024 .bf16) (X1 : FVec Ideal S8192x2048 .bf16) : FVec Ideal S1024x2048 .bf16 :=
  Cert.ProjDwRefIdeal.Read.val_main_v6 (F := Ideal) X0 X1

/-- The reference's weight gradient at an entry: all 8192 rows contracted. -/
theorem ref_at (X0 : FVec Ideal S8192x1024 .bf16) (X1 : FVec Ideal S8192x2048 .bf16) (a : Fin 1024) (b : Fin 2048) :
    REF X0 X1 (ix2 a b) = ∑ k : Fin 8192, X0 (ix2 k a) * X1 (ix2 k b) := by
  show Cert.ProjDwRefIdeal.Read.val_main_v5 (F := Ideal) X0 X1 (ix2 a b) = _
  rw [Cert.ProjDwRefIdeal.Read.val_main_v5_apply, Cert.ProjDwRefIdeal.Read.val_main_v4_apply]
  refine Finset.sum_congr rfl fun k _ => ?_
  rw [mul_comm]
  refine congrArg₂ (· * ·) (congrArg X0 ?_) (congrArg X1 ?_) <;> (funext q; fin_cases q <;> rfl)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

set_option maxHeartbeats 1000000 in
/-- What the accumulator holds when a column block's last row block is done: all four row blocks' products. -/
theorem acc (c : Dev nD) (t : Fin cfg0.N) (h : t.val % 4 = 3) (j : S1024x2048.Idx) :
    (outsAt0 m c t.val t.isLt).2 j = 0 + ∑ s : Fin 4, ∑ k : Fin 2048,
      (show Vec Ideal S2048x1024 .bf16 from iblk m c 0 ⟨4 * (t.val / 4) + s.val, Pipeline.run_point_lt_of_flush t h s⟩) (ix2 k (j 0))
      * (show Vec Ideal S2048x2048 .bf16 from iblk m c 1 ⟨4 * (t.val / 4) + s.val, Pipeline.run_point_lt_of_flush t h s⟩) (ix2 k (j 1)) := by
  exact Pipeline.eq_sum_fin_of_reset_step_apply_of_flush (fun n h => (outsAt0 m c n h).2) 4 (fun _ => 0)
    (fun p j => ∑ k : Fin 2048, (show Vec Ideal S2048x1024 .bf16 from iblk m c 0 p) (ix2 k (j 0)) * (show Vec Ideal S2048x2048 .bf16 from iblk m c 1 p) (ix2 k (j 1)))
    (fun t h j => by
      have hN := lt_of_lt_of_eq t.isLt N_0
      rw [outsAt0_A m c t h (by omega) (by omega)]; frame_out; exact pay2_at _ _ j)
    (fun t h j => by
      by_cases h3 : t.val % 4 = 3
      · rw [outsAt0_C m c t h (by omega) h3]; frame_out; exact (pay3_at _ _ _ j).trans (congrArg (· + _) (congrFun ((Memref.isWhole_whole cc0_scratch0).read_unread _) j))
      · rw [outsAt0_B m c t h (by omega) h3]; frame_out; exact (pay3_at _ _ _ j).trans (congrArg (· + _) (congrFun ((Memref.isWhole_whole cc0_scratch0).read_unread _) j)))
    t h j

set_option maxHeartbeats 1000000 in
/-- What is written back is the accumulator, rounded. -/
theorem out_acc (c : Dev nD) (t : Fin cfg0.N) (h : t.val % 4 = 3) (j : S1024x2048.Idx) :
    (outsAt0 m c t.val t.isLt).1 j = (outsAt0 m c t.val t.isLt).2 j := by
  rw [outsAt0_C m c t (by omega) (by omega) h]; frame_out; exact pay4_at _ j

set_option maxHeartbeats 1000000 in
/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (out_acc m c t h _).trans ((acc m c t h _).trans ?_)
  obtain ⟨a, b, rfl⟩ : ∃ (a : Fin 1024) (b : Fin 2048), y = ix2 a b := ⟨y 0, y 1, by funext q; fin_cases q <;> rfl⟩
  have ht : t.val < 4 := lt_of_lt_of_eq t.isLt N_0
  have e : ((cfg0.win 2).blk t).view.emb (ix2 a b) = (ix2 a ⟨t.val / 4 * 2048 + b.val, by omega⟩ : S1024x2048.Idx) := by
    blk_ext [idx t]
  rw [e, ref_at, zero_add]
  refine Fin.sum_mul_add_congr fun s k hl => ?_
  blk_point [iblk, V, idx ⟨_, Pipeline.run_point_lt_of_flush t h s⟩]

end Cert.ProjDwIdeal.Hand

namespace Cert.Proof
open Idealize.ShloMosaic Idealize.ShloMosaic.TcCoe Idealize.SL.Sem

set_option maxHeartbeats 1000000 in
/-- The kernel's result is the reference's, over the reals extended by the infinities. -/
theorem algebraic_ProjDw : Cert.algebraic_ProjDwIdeal_ProjDwRefIdeal := by
  pair_intro
  · run_from Cert.ProjDwIdeal.Gen.run_main m g
  · run_from Cert.ProjDwRefIdeal.Value.run m' g'
    exact (Cert.ProjDwIdeal.Hand.final m c).symm

end Cert.Proof

end
-- ==== Proof.ProjDxValue.lean ====
module

public import proofs.«01_k».proof.Proof.Gen.ProjDxIdeal.Frame
public import proofs.«01_k».proof.Proof.Gen.ProjDxRefIdeal.Run
public import proofs.«01_k».proof.Proof.Gen.ProjDxRefIdeal.Read
public import proofs.«01_k».proof.Defs
public import Idealize.ShloMosaic.Lib.Pipeline.ValueKit
public import Idealize.ShloMosaic.Lib.Pointwise
public import Idealize.ShloMosaic.Lib.Claim

/-! The gradient of a branch's output: the projection's gradient against the weight. -/

@[expose] public section
set_option maxRecDepth 16384
noncomputable section
namespace Cert.ProjDxIdeal.Hand
open Cert.ProjDxIdeal Cert.ProjDxIdeal.Gen Idealize.ShloMosaic Idealize.ShloMosaic.TcCoe Idealize.SL.Sem
open Idealize.ShloMosaic.Pipeline (Dat)

variable (m : (ℓ : Loc nD τ sig) → Buf (Elt Ideal) ℓ)

/-- One block's product. -/
theorem pay1_at (x0 : Vec Ideal S1024x2048 .bf16) (x1 : Vec Ideal S1024x2048 .bf16) (a : Fin 1024) (b : Fin 1024) :
    k0_pay1 x0 x1 (ix2 a b) = ∑ k : Fin 2048, x0 (ix2 a k) * x1 (ix2 b k) := by
  unfold_payloads; pointwise [dot_S1024x2048_S1024x2048_S1024x1024_1_1_0_0_n_n]

/-- The reference's result over the kernel's argument arrays. -/
abbrev REF (X0 : FVec Ideal S8192x2048 .bf16) (X1 : FVec Ideal S1024x2048 .f32) : FVec Ideal S8192x1024 .f32 :=
  Cert.ProjDxRefIdeal.Read.val_main_v3 (F := Ideal) X0 X1

/-- The reference's result at an entry: one contraction. -/
theorem ref_at (X0 : FVec Ideal S8192x2048 .bf16) (X1 : FVec Ideal S1024x2048 .f32) (a : Fin 8192) (b : Fin 1024) :
    REF X0 X1 (ix2 a b) = ∑ k : Fin 2048, X0 (ix2 a k) * X1 (ix2 b k) := by
  show Cert.ProjDxRefIdeal.Read.val_main_v3 (F := Ideal) X0 X1 (ix2 a b) = _
  rw [Cert.ProjDxRefIdeal.Read.val_main_v3_apply]
  refine Finset.sum_congr rfl fun k _ => ?_
  refine congrArg₂ (· * ·) (congrArg X0 ?_) (congrArg X1 ?_) <;> (funext q; fin_cases q <;> first | rfl | (apply Fin.ext; simp))

theorem idx : ∀ t : Fin cfg0.N, win0_0.index t = ![t.val, 0] ∧ win0_1.index t = ![0, 0] ∧ win0_2.index t = ![t.val, 0] :=
  (by decide +kernel : ∀ t : Fin grid0.N, _)

/-- The weights the kernel stages are the argument, rounded. -/
theorem V_w (c : Dev nD) : V m c main_v0 = m ((c : Thread nD τ).loc main_arg1) := by
  entry_read; rfl

set_option maxHeartbeats 1000000 in
/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨a, b, rfl⟩ : ∃ (a : Fin 1024) (b : Fin 1024), y = ix2 a b := ⟨y 0, y 1, by funext q; fin_cases q <;> rfl⟩
  have ht : t.val < 8 := lt_of_lt_of_eq t.isLt N_0
  have e : ((cfg0.win 2).blk t).view.emb (ix2 a b) = (ix2 ⟨t.val * 1024 + a.val, by omega⟩ ⟨0 * 1024 + b.val, by omega⟩ : S8192x1024.Idx) := by
    blk_ext [idx t]
  rw [e, ref_at]
  refine (pay1_at _ _ a b).trans ?_
  refine Fin.sum_fin_congr fun k => ?_
  blk_point [iblk, V_w, V_main_arg0, idx t]

end Cert.ProjDxIdeal.Hand

namespace Cert.Proof
open Idealize.ShloMosaic Idealize.ShloMosaic.TcCoe Idealize.SL.Sem

set_option maxHeartbeats 1000000 in
/-- The kernel's result is the reference's, over the reals extended by the infinities. -/
theorem algebraic_ProjDx : Cert.algebraic_ProjDxIdeal_ProjDxRefIdeal := by
  pair_intro
  · run_from Cert.ProjDxIdeal.Gen.run_main m g
  · run_from Cert.ProjDxRefIdeal.Value.run m' g'
    exact (Cert.ProjDxIdeal.Hand.final m c).symm

end Cert.Proof

end
-- ==== Proof.InGpValue.lean ====
module

public import proofs.«01_k».proof.Proof.Gen.InGpIdeal.Frame
public import proofs.«01_k».proof.Proof.Gen.InGpRefIdeal.Run
public import proofs.«01_k».proof.Proof.Gen.InGpRefIdeal.Read
public import proofs.«01_k».proof.Defs
public import Idealize.ShloMosaic.Lib.Pipeline.ValueKit
public import Idealize.ShloMosaic.Lib.Pointwise
public import Idealize.ShloMosaic.Lib.Claim

/-! The gate and pooling columns of the in-projection. -/

@[expose] public section
set_option maxRecDepth 16384
noncomputable section
namespace Cert.InGpIdeal.Hand
open Cert.InGpIdeal Cert.InGpIdeal.Gen Idealize.ShloMosaic Idealize.ShloMosaic.TcCoe Idealize.SL.Sem
open Idealize.ShloMosaic.Pipeline (Dat)

variable (m : (ℓ : Loc nD τ sig) → Buf (Elt Ideal) ℓ)

/-- One block's product. -/
theorem pay1_at (x0 : Vec Ideal S2048x2048 .bf16) (x1 : Vec Ideal S2048x1024 .bf16) (a : Fin 2048) (b : Fin 1024) :
    k0_pay1 x0 x1 (ix2 a b) = ∑ k : Fin 2048, x0 (ix2 a k) * x1 (ix2 k b) := by
  unfold_payloads; pointwise [dot_S2048x2048_S2048x1024_S2048x1024_1_0_0_1_n_n]

/-- The reference's result over the kernel's argument arrays. -/
abbrev REF (X0 : FVec Ideal S8192x2048 .bf16) (X1 : FVec Ideal S2048x10240 .f32) : FVec Ideal S8192x6144 .bf16 :=
  Cert.InGpRefIdeal.Read.val_main_v3 (F := Ideal) X0 X1

/-- The reference's result at an entry: one contraction. -/
theorem ref_at (X0 : FVec Ideal S8192x2048 .bf16) (X1 : FVec Ideal S2048x10240 .f32) (a : Fin 8192) (b : Fin 6144) :
    REF X0 X1 (ix2 a b) = ∑ k : Fin 2048, X0 (ix2 a k) * X1 (ix2 k ⟨0 + b.val, by omega⟩) := by
  show Cert.InGpRefIdeal.Read.val_main_v2 (F := Ideal) X0 X1 (ix2 a b) = _
  rw [Cert.InGpRefIdeal.Read.val_main_v2_apply, Cert.InGpRefIdeal.Read.val_main_v1_apply]
  refine Finset.sum_congr rfl fun k _ => ?_
  refine congrArg₂ (· * ·) (congrArg X0 ?_) (congrArg X1 ?_) <;> (funext q; fin_cases q <;> first | rfl | (apply Fin.ext; simp))

theorem idx : ∀ t : Fin cfg0.N, win0_0.index t = ![t.val % 4, 0] ∧ win0_1.index t = ![0, t.val / 4] ∧ win0_2.index t = ![t.val % 4, t.val / 4] :=
  (by decide +kernel : ∀ t : Fin grid0.N, _)

/-- The weights the kernel stages are the argument, rounded. -/
theorem V_w (c : Dev nD) : V m c main_v0 = m ((c : Thread nD τ).loc main_arg1) := by
  entry_read; rfl

set_option maxHeartbeats 1000000 in
/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨a, b, rfl⟩ : ∃ (a : Fin 2048) (b : Fin 1024), y = ix2 a b := ⟨y 0, y 1, by funext q; fin_cases q <;> rfl⟩
  have ht : t.val < 24 := lt_of_lt_of_eq t.isLt N_0
  have e : ((cfg0.win 2).blk t).view.emb (ix2 a b) = (ix2 ⟨t.val % 4 * 2048 + a.val, by omega⟩ ⟨t.val / 4 * 1024 + b.val, by omega⟩ : S8192x6144.Idx) := by
    blk_ext [idx t]
  rw [e, ref_at]
  refine (pay1_at _ _ a b).trans ?_
  refine Fin.sum_fin_congr fun k => ?_
  blk_point [iblk, V_w, V_main_arg0, idx t]

end Cert.InGpIdeal.Hand

namespace Cert.Proof
open Idealize.ShloMosaic Idealize.ShloMosaic.TcCoe Idealize.SL.Sem

set_option maxHeartbeats 1000000 in
/-- The kernel's result is the reference's, over the reals extended by the infinities. -/
theorem algebraic_InGp : Cert.algebraic_InGpIdeal_InGpRefIdeal := by
  pair_intro
  · run_from Cert.InGpIdeal.Gen.run_main m g
  · run_from Cert.InGpRefIdeal.Value.run m' g'
    exact (Cert.InGpIdeal.Hand.final m c).symm

end Cert.Proof

end
-- ==== Proof.InHeadsValue.lean ====
module

public import proofs.«01_k».proof.Proof.Gen.InHeadsIdeal.Frame
public import proofs.«01_k».proof.Proof.Gen.InHeadsRefIdeal.Run
public import proofs.«01_k».proof.Proof.Gen.InHeadsRefIdeal.Read
public import proofs.«01_k».proof.Defs
public import Idealize.ShloMosaic.Lib.Pipeline.ValueKit
public import Idealize.ShloMosaic.Lib.Pointwise
public import Idealize.ShloMosaic.Lib.Claim

/-! The recurrence's columns of the in-projection. -/

@[expose] public section
set_option maxRecDepth 16384
noncomputable section
namespace Cert.InHeadsIdeal.Hand
open Cert.InHeadsIdeal Cert.InHeadsIdeal.Gen Idealize.ShloMosaic Idealize.ShloMosaic.TcCoe Idealize.SL.Sem
open Idealize.ShloMosaic.Pipeline (Dat)

variable (m : (ℓ : Loc nD τ sig) → Buf (Elt Ideal) ℓ)

/-- One block's product. -/
theorem pay1_at (x0 : Vec Ideal S2048x2048 .bf16) (x1 : Vec Ideal S2048x1024 .bf16) (a : Fin 2048) (b : Fin 1024) :
    k0_pay1 x0 x1 (ix2 a b) = ∑ k : Fin 2048, x0 (ix2 a k) * x1 (ix2 k b) := by
  unfold_payloads; pointwise [dot_S2048x2048_S2048x1024_S2048x1024_1_0_0_1_n_n]

/-- The reference's result over the kernel's argument arrays. -/
abbrev REF (X0 : FVec Ideal S8192x2048 .bf16) (X1 : FVec Ideal S2048x10240 .f32) : FVec Ideal S8192x4096 .f32 :=
  Cert.InHeadsRefIdeal.Read.val_main_v2 (F := Ideal) X0 X1

/-- The reference's result at an entry: one contraction. -/
theorem ref_at (X0 : FVec Ideal S8192x2048 .bf16) (X1 : FVec Ideal S2048x10240 .f32) (a : Fin 8192) (b : Fin 4096) :
    REF X0 X1 (ix2 a b) = ∑ k : Fin 2048, X0 (ix2 a k) * X1 (ix2 k ⟨6144 + b.val, by omega⟩) := by
  show Cert.InHeadsRefIdeal.Read.val_main_v2 (F := Ideal) X0 X1 (ix2 a b) = _
  rw [Cert.InHeadsRefIdeal.Read.val_main_v2_apply, Cert.InHeadsRefIdeal.Read.val_main_v1_apply]
  refine Finset.sum_congr rfl fun k _ => ?_
  refine congrArg₂ (· * ·) (congrArg X0 ?_) (congrArg X1 ?_) <;> (funext q; fin_cases q <;> first | rfl | (apply Fin.ext; simp))

theorem idx : ∀ t : Fin cfg0.N, win0_0.index t = ![t.val % 4, 0] ∧ win0_1.index t = ![0, 6 + t.val / 4] ∧ win0_2.index t = ![t.val % 4, t.val / 4] :=
  (by decide +kernel : ∀ t : Fin grid0.N, _)

/-- The weights the kernel stages are the argument, rounded. -/
theorem V_w (c : Dev nD) : V m c main_v0 = m ((c : Thread nD τ).loc main_arg1) := by
  entry_read; rfl

set_option maxHeartbeats 1000000 in
/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨a, b, rfl⟩ : ∃ (a : Fin 2048) (b : Fin 1024), y = ix2 a b := ⟨y 0, y 1, by funext q; fin_cases q <;> rfl⟩
  have ht : t.val < 16 := lt_of_lt_of_eq t.isLt N_0
  have e : ((cfg0.win 2).blk t).view.emb (ix2 a b) = (ix2 ⟨t.val % 4 * 2048 + a.val, by omega⟩ ⟨t.val / 4 * 1024 + b.val, by omega⟩ : S8192x4096.Idx) := by
    blk_ext [idx t]
  rw [e, ref_at]
  refine (pay1_at _ _ a b).trans ?_
  refine Fin.sum_fin_congr fun k => ?_
  blk_point [iblk, V_w, V_main_arg0, idx t]

end Cert.InHeadsIdeal.Hand

namespace Cert.Proof
open Idealize.ShloMosaic Idealize.ShloMosaic.TcCoe Idealize.SL.Sem

set_option maxHeartbeats 1000000 in
/-- The kernel's result is the reference's, over the reals extended by the infinities. -/
theorem algebraic_InHeads : Cert.algebraic_InHeadsIdeal_InHeadsRefIdeal := by
  pair_intro
  · run_from Cert.InHeadsIdeal.Gen.run_main m g
  · run_from Cert.InHeadsRefIdeal.Value.run m' g'
    exact (Cert.InHeadsIdeal.Hand.final m c).symm

end Cert.Proof

end
-- ==== Proof.GateFwdValue.lean ====
module

public import proofs.«01_k».proof.Proof.Gen.GateFwdIdeal.Frame
public import proofs.«01_k».proof.Proof.Gen.GateFwdRefIdeal.Run
public import proofs.«01_k».proof.Proof.Gen.GateFwdRefIdeal.Read
public import proofs.«01_k».proof.Defs
public import Idealize.ShloMosaic.Lib.Pipeline.ValueKit
public import Idealize.ShloMosaic.Lib.Pointwise
public import Idealize.ShloMosaic.Lib.Claim

/-! The two projections and their gated sum. -/

@[expose] public section
set_option maxRecDepth 16384
noncomputable section
namespace Cert.GateFwdRefIdeal.Hand
open Cert.GateFwdRefIdeal Cert.GateFwdRefIdeal.Gen Cert.GateFwdRefIdeal.Read Idealize.ShloMosaic Idealize.ShloMosaic.TcCoe Idealize.SL.Sem

variable (X0 X1 : FVec Ideal S8192x1024 .bf16) (X2 X3 : FVec Ideal S1024x2048 .f32) (X4 : FVec Ideal S8192x6144 .bf16)

/-- A projection at an entry: one contraction. -/
abbrev P (X : FVec Ideal S8192x1024 .bf16) (W : FVec Ideal S1024x2048 .f32) (a : Fin 8192) (b : Fin 2048) : EReal :=
  ∑ k : Fin 1024, X (ix2 a k) * W (ix2 k b)

/-- The logistic function as the programs spell it. -/
abbrev sg (z : EReal) : EReal := Ideal.div 1 (1 + Ideal.exp (-z))

theorem pa_at (a : Fin 8192) (b : Fin 2048) : val_main_v23 (F := Ideal) X0 X2 (ix2 a b) = P X0 X2 a b := by
  pointwise [val_main_v23, val_main_v1, val_main_v0]
theorem pb_at (a : Fin 8192) (b : Fin 2048) : val_main_v24 (F := Ideal) X1 X3 (ix2 a b) = P X1 X3 a b := by
  pointwise [val_main_v24, val_main_v3, val_main_v2]
theorem merged_at (a : Fin 8192) (b : Fin 2048) : val_main_v25 (F := Ideal) X0 X1 X2 X3 X4 (ix2 a b)
    = sg (X4 (ix2 a ⟨b.val, by omega⟩)) * P X0 X2 a b + sg (X4 (ix2 a ⟨2048 + b.val, by omega⟩)) * P X1 X3 a b := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2]

end Cert.GateFwdRefIdeal.Hand

namespace Cert.GateFwdIdeal.Hand
open Cert.GateFwdIdeal Cert.GateFwdIdeal.Gen Idealize.ShloMosaic Idealize.ShloMosaic.TcCoe Idealize.SL.Sem
open Idealize.ShloMosaic.Pipeline (Dat)
open Cert.GateFwdRefIdeal.Hand (P sg pa_at pb_at merged_at)

variable (m : (ℓ : Loc nD τ sig) → Buf (Elt Ideal) ℓ)

/-- The argument arrays on a device. -/
abbrev A0 (c : Dev nD) : FVec Ideal S8192x1024 .bf16 := m ((c : Thread nD τ).loc main_arg0)
abbrev A1 (c : Dev nD) : FVec Ideal S8192x1024 .bf16 := m ((c : Thread nD τ).loc main_arg1)
abbrev A2 (c : Dev nD) : FVec Ideal S1024x2048 .f32 := m ((c : Thread nD τ).loc main_arg2)
abbrev A3 (c : Dev nD) : FVec Ideal S1024x2048 .f32 := m ((c : Thread nD τ).loc main_arg3)
abbrev A4 (c : Dev nD) : FVec Ideal S8192x6144 .bf16 := m ((c : Thread nD τ).loc main_arg4)

/-- A block's two projections and their gated sum. -/
theorem pay4_at (x0 : Vec Ideal S512x1024 .bf16) (x1 : Vec Ideal S1024x2048 .bf16) (a : Fin 512) (b : Fin 2048) :
    k0_pay4 x0 x1 (ix2 a b) = ∑ k : Fin 1024, x0 (ix2 a k) * x1 (ix2 k b) := by
  pointwise [k0_pay4, k0_pay2]
theorem pay5_at (x0 : Vec Ideal S512x1024 .bf16) (x1 : Vec Ideal S1024x2048 .bf16) (a : Fin 512) (b : Fin 2048) :
    k0_pay5 x0 x1 (ix2 a b) = ∑ k : Fin 1024, x0 (ix2 a k) * x1 (ix2 k b) := by
  pointwise [k0_pay5, k0_pay3]
theorem pay1_at (x0 : Vec Ideal S512x1024 .bf16) (x1 : Vec Ideal S1024x2048 .bf16) (x2 : Vec Ideal S512x1024 .bf16) (x3 : Vec Ideal S1024x2048 .bf16)
    (x4 x5 : Vec Ideal S512x2048 .bf16) (a : Fin 512) (b : Fin 2048) :
    k0_pay1 (k0_pay6 x0 x1 x2 x3 x4 x5) (ix2 a b) = sg (x4 (ix2 a b)) * (∑ k : Fin 1024, x0 (ix2 a k) * x1 (ix2 k b))
      + sg (x5 (ix2 a b)) * (∑ k : Fin 1024, x2 (ix2 a k) * x3 (ix2 k b)) := by
  pointwise [k0_pay1, k0_pay6, k0_pay2, k0_pay3]
  simp only [zero_sub]

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 1] ∧ win0_6.index t = ![t.val, 0] ∧ win0_7.index t = ![t.val, 0] ∧ win0_8.index t = ![t.val, 0] :=
  (by decide +kernel : ∀ t : Fin grid0.N, _)

/-- The weights the kernel stages are the arguments, rounded. -/
theorem V_wa (c : Dev nD) : V m c main_v0 = m ((c : Thread nD τ).loc main_arg2) := by
  entry_read; rfl
theorem V_wb (c : Dev nD) : V m c main_v1 = m ((c : Thread nD τ).loc main_arg3) := by
  entry_read; rfl

/-- The staged blocks at an entry. -/
theorem blk0 (c : Dev nD) (t : Fin cfg0.N) (ht : t.val < 16) (a : Fin 512) (k : Fin 1024) : (iblk m c 0 t : Vec Ideal S512x1024 .bf16) (ix2 a k) = A0 m c (ix2 ⟨t.val * 512 + a.val, by omega⟩ k) := by
  blk_point [iblk, V_main_arg0, idx t]
theorem blk1 (c : Dev nD) (t : Fin cfg0.N) (ht : t.val < 16) (a : Fin 512) (k : Fin 1024) : (iblk m c 1 t : Vec Ideal S512x1024 .bf16) (ix2 a k) = A1 m c (ix2 ⟨t.val * 512 + a.val, by omega⟩ k) := by
  blk_point [iblk, V_main_arg1, idx t]
theorem blk2 (c : Dev nD) (t : Fin cfg0.N) (k : Fin 1024) (b : Fin 2048) : (iblk m c 2 t : Vec Ideal S1024x2048 .bf16) (ix2 k b) = A2 m c (ix2 k b) := by
  blk_point [iblk, V_wa, idx t]
theorem blk3 (c : Dev nD) (t : Fin cfg0.N) (k : Fin 1024) (b : Fin 2048) : (iblk m c 3 t : Vec Ideal S1024x2048 .bf16) (ix2 k b) = A3 m c (ix2 k b) := by
  blk_point [iblk, V_wb, idx t]
theorem blk4 (c : Dev nD) (t : Fin cfg0.N) (ht : t.val < 16) (a : Fin 512) (b : Fin 2048) : (iblk m c 4 t : Vec Ideal S512x2048 .bf16) (ix2 a b) = A4 m c (ix2 ⟨t.val * 512 + a.val, by omega⟩ ⟨b.val, by omega⟩) := by
  blk_point [iblk, V_main_arg4, idx t]
theorem blk5 (c : Dev nD) (t : Fin cfg0.N) (ht : t.val < 16) (a : Fin 512) (b : Fin 2048) : (iblk m c 5 t : Vec Ideal S512x2048 .bf16) (ix2 a b) = A4 m c (ix2 ⟨t.val * 512 + a.val, by omega⟩ ⟨2048 + b.val, by omega⟩) := by
  blk_point [iblk, V_main_arg4, idx t]

set_option maxHeartbeats 1000000 in
/-- The first projection after the run. -/
theorem final6 (c : Dev nD) : (dats m 0 c).arrAt 6 (cfgs 0).N = Cert.GateFwdRefIdeal.Read.val_main_v23 (F := Ideal) (A0 m c) (A2 m c) := by
  refine (dats m 0 c).arrAt_eq_of_covers 6 _ (by decide +kernel) fun t hf y => ?_
  blk_simp
  rw [after0_6]; frame_out
  obtain ⟨a, b, rfl⟩ : ∃ (a : Fin 512) (b : Fin 2048), y = ix2 a b := ⟨y 0, y 1, by funext q; fin_cases q <;> rfl⟩
  have ht : t.val < 16 := lt_of_lt_of_eq t.isLt N_0
  have e : ((cfg0.win 6).blk t).view.emb (ix2 a b) = (ix2 ⟨t.val * 512 + a.val, by omega⟩ b : S8192x2048.Idx) := by
    blk_ext [idx t]
  rw [e, pa_at]
  refine (pay4_at _ _ a b).trans ?_
  exact Finset.sum_congr rfl fun k _ => congrArg₂ (· * ·) (blk0 m c t ht a k) (blk2 m c t k b)

set_option maxHeartbeats 1000000 in
/-- The second projection after the run. -/
theorem final7 (c : Dev nD) : (dats m 0 c).arrAt 7 (cfgs 0).N = Cert.GateFwdRefIdeal.Read.val_main_v24 (F := Ideal) (A1 m c) (A3 m c) := by
  refine (dats m 0 c).arrAt_eq_of_covers 7 _ (by decide +kernel) fun t hf y => ?_
  blk_simp
  rw [after0_7]; frame_out
  obtain ⟨a, b, rfl⟩ : ∃ (a : Fin 512) (b : Fin 2048), y = ix2 a b := ⟨y 0, y 1, by funext q; fin_cases q <;> rfl⟩
  have ht : t.val < 16 := lt_of_lt_of_eq t.isLt N_0
  have e : ((cfg0.win 7).blk t).view.emb (ix2 a b) = (ix2 ⟨t.val * 512 + a.val, by omega⟩ b : S8192x2048.Idx) := by
    blk_ext [idx t]
  rw [e, pb_at]
  refine (pay5_at _ _ a b).trans ?_
  exact Finset.sum_congr rfl fun k _ => congrArg₂ (· * ·) (blk1 m c t ht a k) (blk3 m c t k b)

set_option maxHeartbeats 1000000 in
/-- The gated sum after the run. -/
theorem final8 (c : Dev nD) : (dats m 0 c).arrAt 8 (cfgs 0).N = Cert.GateFwdRefIdeal.Read.val_main_v25 (F := Ideal) (A0 m c) (A1 m c) (A2 m c) (A3 m c) (A4 m c) := by
  refine (dats m 0 c).arrAt_eq_of_covers 8 _ (by decide +kernel) fun t hf y => ?_
  blk_simp
  rw [after0_8]; frame_out
  obtain ⟨a, b, rfl⟩ : ∃ (a : Fin 512) (b : Fin 2048), y = ix2 a b := ⟨y 0, y 1, by funext q; fin_cases q <;> rfl⟩
  have ht : t.val < 16 := lt_of_lt_of_eq t.isLt N_0
  have e : ((cfg0.win 8).blk t).view.emb (ix2 a b) = (ix2 ⟨t.val * 512 + a.val, by omega⟩ b : S8192x2048.Idx) := by
    blk_ext [idx t]
  rw [e, merged_at]
  refine (pay1_at _ _ _ _ _ _ a b).trans (congrArg₂ (· + ·) (congrArg₂ (· * ·) (congrArg sg (blk4 m c t ht a b)) ?_) (congrArg₂ (· * ·) (congrArg sg (blk5 m c t ht a b)) ?_))
  · exact Finset.sum_congr rfl fun k _ => congrArg₂ (· * ·) (blk0 m c t ht a k) (blk2 m c t k b)
  · exact Finset.sum_congr rfl fun k _ => congrArg₂ (· * ·) (blk1 m c t ht a k) (blk3 m c t k b)

end Cert.GateFwdIdeal.Hand

namespace Cert.Proof
open Idealize.ShloMosaic Idealize.ShloMosaic.TcCoe Idealize.SL.Sem

set_option maxHeartbeats 1000000 in
/-- The kernel's three results are the reference's, over the reals extended by the infinities. -/
theorem algebraic_GateFwd : Cert.algebraic_GateFwdIdeal_GateFwdRefIdeal := by
  pair_intro
  · run_from Cert.GateFwdIdeal.Gen.run_main m g
  · run_from Cert.GateFwdRefIdeal.Value.run m' g'
    · exact (Cert.GateFwdIdeal.Hand.final6 m c).symm
    · exact (Cert.GateFwdIdeal.Hand.final7 m c).symm
    · exact (Cert.GateFwdIdeal.Hand.final8 m c).symm

end Cert.Proof

end
-- ==== Proof.OutFwdValue.lean ====
module

public import proofs.«01_k».proof.Proof.Gen.OutFwdIdeal.Frame
public import proofs.«01_k».proof.Proof.Gen.OutFwdRefIdeal.Run
public import proofs.«01_k».proof.Proof.Gen.OutFwdRefIdeal.Read
public import proofs.«01_k».proof.Defs
public import Idealize.ShloMosaic.Lib.Pipeline.ValueKit
public import Idealize.ShloMosaic.Lib.Pointwise
public import Idealize.ShloMosaic.Lib.Claim

/-! The out-projection, the norm after it with its gate, and the next layer's norm with its modulation. -/

@[expose] public section
set_option maxRecDepth 16384
noncomputable section
namespace OutFwdRow
open Idealize.ShloMosaic

/-- A row over the root of its mean square. -/
def nrm (r : Fin 2048 → EReal) (b : Fin 2048) : EReal :=
  r b * Ideal.rsqrt (Ideal.div (∑ k, r k * r k) (Ideal.ofBits .f32 0x45000000#32) + Ideal.ofBits .f32 0x358637BD#32)

/-- The residual's row: the projected row normed, gained and gated, added to the row that came in. -/
def res (o x gate gain : Fin 2048 → EReal) (b : Fin 2048) : EReal := x b + gate b * (nrm o b * gain b)

/-- The next layer's row: the residual's row normed, gained and modulated. -/
def nxt (y gain scale shift : Fin 2048 → EReal) (b : Fin 2048) : EReal := nrm y b * gain b * (1 + scale b) + shift b

theorem res_congr {o o' x x' gate gate' gain gain' : Fin 2048 → EReal} (ho : ∀ j, o j = o' j) (hx : ∀ j, x j = x' j)
    (hg : ∀ j, gate j = gate' j) (hn : ∀ j, gain j = gain' j) (b : Fin 2048) : res o x gate gain b = res o' x' gate' gain' b := by
  rw [funext ho, funext hx, funext hg, funext hn]
theorem nxt_congr {y y' gain gain' scale scale' shift shift' : Fin 2048 → EReal} (hy : ∀ j, y j = y' j) (hg : ∀ j, gain j = gain' j)
    (hs : ∀ j, scale j = scale' j) (hh : ∀ j, shift j = shift' j) (b : Fin 2048) : nxt y gain scale shift b = nxt y' gain' scale' shift' b := by
  rw [funext hy, funext hg, funext hs, funext hh]

end OutFwdRow

namespace Cert.OutFwdRefIdeal.Hand
open Cert.OutFwdRefIdeal Cert.OutFwdRefIdeal.Gen Cert.OutFwdRefIdeal.Read Idealize.ShloMosaic Idealize.ShloMosaic.TcCoe Idealize.SL.Sem
open OutFwdRow

variable (X0 : FVec Ideal S8192x2048 .bf16) (X1 : FVec Ideal S2048x2048 .f32) (X2 : FVec Ideal S8192x2048 .f32)
  (X3 X4 X5 X6 X7 : FVec Ideal S1x2048 .f32)

/-- The projected row, and a vector's entries. -/
abbrev O (a : Fin 8192) (b : Fin 2048) : EReal := ∑ k : Fin 2048, X0 (ix2 a k) * X1 (ix2 k b)
abbrev vec (X : FVec Ideal S1x2048 .f32) (b : Fin 2048) : EReal := X (ix2 0 b)
/-- The residual's row. -/
abbrev Y (a : Fin 8192) : Fin 2048 → EReal := res (O X0 X1 a) (fun j => X2 (ix2 a j)) (vec X4) (vec X3)

theorem out_at (a : Fin 8192) (b : Fin 2048) : val_main_v1 (F := Ideal) X0 X1 (ix2 a b) = O X0 X1 a b := by
  pointwise [val_main_v1, val_main_v0]
theorem y_at (a : Fin 8192) (b : Fin 2048) : val_main_v16 (F := Ideal) X0 X1 X2 X3 X4 (ix2 a b) = Y X0 X1 X2 X3 X4 a b := by
  pointwise [val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  simp only [out_at, zero_add]
  rfl
theorem h_at (a : Fin 8192) (b : Fin 2048) : val_main_v35 (F := Ideal) X0 X1 X2 X3 X4 X5 X6 X7 (ix2 a b)
    = nxt (Y X0 X1 X2 X3 X4 a) (vec X5) (vec X7) (vec X6) b := by
  pointwise [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_2, val_main_cst_3, val_main_cst_4, val_main_cst_5]
  simp only [y_at, zero_add]
  rfl

/-- The reference's run, its three results read as functions of its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = Cert.OutFwdRefIdeal.Read.val_main_v1 (F := Ideal) (m ((c.tc : Thread nD τ).loc main_arg0)) (m ((c.tc : Thread nD τ).loc main_arg1))
      ∧ r.2.mem ((c.tc : Thread nD τ).loc main_v16) = Cert.OutFwdRefIdeal.Read.val_main_v16 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = Cert.OutFwdRefIdeal.Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (Read.val_main_v1_eq _ _), (h c).2.1.trans (Read.val_main_v16_eq _ _ _ _ _), (h c).2.2.1.trans (Read.val_main_v35_eq m c), (h c).2.2.2⟩) (Value.run m ρ)

end Cert.OutFwdRefIdeal.Hand

namespace Cert.OutFwdIdeal.Hand
open Cert.OutFwdIdeal Cert.OutFwdIdeal.Gen Idealize.ShloMosaic Idealize.ShloMosaic.TcCoe Idealize.SL.Sem
open Idealize.ShloMosaic.Pipeline (Dat)
open OutFwdRow
open Cert.OutFwdRefIdeal.Hand (O vec Y out_at y_at h_at)

variable (m : (ℓ : Loc nD τ sig) → Buf (Elt Ideal) ℓ)

/-- The argument arrays on a device. -/
abbrev A0 (c : Dev nD) : FVec Ideal S8192x2048 .bf16 := m ((c : Thread nD τ).loc main_arg0)
abbrev A1 (c : Dev nD) : FVec Ideal S2048x2048 .f32 := m ((c : Thread nD τ).loc main_arg1)
abbrev A2 (c : Dev nD) : FVec Ideal S8192x2048 .f32 := m ((c : Thread nD τ).loc main_arg2)
abbrev A3 (c : Dev nD) : FVec Ideal S1x2048 .f32 := m ((c : Thread nD τ).loc main_arg3)
abbrev A4 (c : Dev nD) : FVec Ideal S1x2048 .f32 := m ((c : Thread nD τ).loc main_arg4)
abbrev A5 (c : Dev nD) : FVec Ideal S1x2048 .f32 := m ((c : Thread nD τ).loc main_arg5)
abbrev A6 (c : Dev nD) : FVec Ideal S1x2048 .f32 := m ((c : Thread nD τ).loc main_arg6)
abbrev A7 (c : Dev nD) : FVec Ideal S1x2048 .f32 := m ((c : Thread nD τ).loc main_arg7)

/-- A block's projected rows, residual rows and next rows. -/
theorem pay2_at (x0 : Vec Ideal S512x2048 .bf16) (x1 : Vec Ideal S2048x2048 .bf16) (a : Fin 512) (b : Fin 2048) :
    k0_pay2 x0 x1 (ix2 a b) = ∑ k : Fin 2048, x0 (ix2 a k) * x1 (ix2 k b) := by
  pointwise [k0_pay2]
theorem pay3_at (x0 : Vec Ideal S512x2048 .bf16) (x1 : Vec Ideal S2048x2048 .bf16) (x2 : Vec Ideal S512x2048 .f32) (gt gn : Vec Ideal S1x2048 .f32)
    (a : Fin 512) (b : Fin 2048) :
    k0_pay3 x0 x1 x2 gt gn (ix2 a b) = res (fun j => ∑ k : Fin 2048, x0 (ix2 a k) * x1 (ix2 k j)) (fun j => x2 (ix2 a j)) (fun j => gt (ix2 0 j)) (fun j => gn (ix2 0 j)) b := by
  pointwise [k0_pay3]
  simp only [pay2_at]
  rfl
theorem pay1_at (x0 : Vec Ideal S512x2048 .bf16) (x1 : Vec Ideal S2048x2048 .bf16) (x2 : Vec Ideal S512x2048 .f32) (gt gn g2 sc sh : Vec Ideal S1x2048 .f32)
    (a : Fin 512) (b : Fin 2048) :
    k0_pay1 (k0_pay4 x0 x1 x2 gt gn) g2 sc sh (ix2 a b) = nxt (fun j => k0_pay3 x0 x1 x2 gt gn (ix2 a j)) (fun j => g2 (ix2 0 j)) (fun j => sc (ix2 0 j)) (fun j => sh (ix2 0 j)) b := by
  pointwise [k0_pay1, k0_pay4]
  rfl

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The weights the kernel stages are the argument, rounded. -/
theorem V_w (c : Dev nD) : V m c main_v0 = m ((c : Thread nD τ).loc main_arg1) := by
  entry_read; rfl

/-- The staged blocks at an entry. -/
theorem blk0 (c : Dev nD) (t : Fin cfg0.N) (ht : t.val < 16) (a : Fin 512) (k : Fin 2048) : (iblk m c 0 t : Vec Ideal S512x2048 .bf16) (ix2 a k) = A0 m c (ix2 ⟨t.val * 512 + a.val, by omega⟩ k) := by
  blk_point [iblk, V_main_arg0, idx t]
theorem blk1 (c : Dev nD) (t : Fin cfg0.N) (k : Fin 2048) (b : Fin 2048) : (iblk m c 1 t : Vec Ideal S2048x2048 .bf16) (ix2 k b) = A1 m c (ix2 k b) := by
  blk_point [iblk, V_w, idx t]
theorem blk2 (c : Dev nD) (t : Fin cfg0.N) (ht : t.val < 16) (a : Fin 512) (k : Fin 2048) : (iblk m c 2 t : Vec Ideal S512x2048 .f32) (ix2 a k) = A2 m c (ix2 ⟨t.val * 512 + a.val, by omega⟩ k) := by
  blk_point [iblk, V_main_arg2, idx t]
theorem blk3 (c : Dev nD) (t : Fin cfg0.N) (b : Fin 2048) : (iblk m c 3 t : Vec Ideal S1x2048 .f32) (ix2 0 b) = A3 m c (ix2 0 b) := by
  blk_point [iblk, V_main_arg3, idx t]
theorem blk4 (c : Dev nD) (t : Fin cfg0.N) (b : Fin 2048) : (iblk m c 4 t : Vec Ideal S1x2048 .f32) (ix2 0 b) = A4 m c (ix2 0 b) := by
  blk_point [iblk, V_main_arg4, idx t]
theorem blk5 (c : Dev nD) (t : Fin cfg0.N) (b : Fin 2048) : (iblk m c 5 t : Vec Ideal S1x2048 .f32) (ix2 0 b) = A5 m c (ix2 0 b) := by
  blk_point [iblk, V_main_arg5, idx t]
theorem blk6 (c : Dev nD) (t : Fin cfg0.N) (b : Fin 2048) : (iblk m c 6 t : Vec Ideal S1x2048 .f32) (ix2 0 b) = A6 m c (ix2 0 b) := by
  blk_point [iblk, V_main_arg6, idx t]
theorem blk7 (c : Dev nD) (t : Fin cfg0.N) (b : Fin 2048) : (iblk m c 7 t : Vec Ideal S1x2048 .f32) (ix2 0 b) = A7 m c (ix2 0 b) := by
  blk_point [iblk, V_main_arg7, idx t]

/-- The projected rows of a block are the reference's. -/
theorem rows (c : Dev nD) (t : Fin cfg0.N) (ht : t.val < 16) (a : Fin 512) (b : Fin 2048) :
    (∑ k : Fin 2048, (show Vec Ideal S512x2048 .bf16 from iblk m c 0 t) (ix2 a k) * (show Vec Ideal S2048x2048 .bf16 from iblk m c 1 t) (ix2 k b))
      = O (A0 m c) (A1 m c) ⟨t.val * 512 + a.val, by omega⟩ b :=
  Finset.sum_congr rfl fun k _ => congrArg₂ (· * ·) (blk0 m c t ht a k) (blk1 m c t k b)

/-- The residual rows of a block are the reference's. -/
theorem resid (c : Dev nD) (t : Fin cfg0.N) (ht : t.val < 16) (a : Fin 512) (b : Fin 2048) :
    k0_pay3 (F := Ideal) (iblk m c 0 t) (iblk m c 1 t) (iblk m c 2 t) (iblk m c 4 t) (iblk m c 3 t) (ix2 a b)
      = Y (A0 m c) (A1 m c) (A2 m c) (A3 m c) (A4 m c) ⟨t.val * 512 + a.val, by omega⟩ b := by
  exact (pay3_at _ _ _ _ _ a b).trans (res_congr (fun j => rows m c t ht a j) (fun j => blk2 m c t ht a j) (fun j => blk4 m c t j) (fun j => blk3 m c t j) b)

set_option maxHeartbeats 1000000 in
/-- The projected rows after the run. -/
theorem final8 (c : Dev nD) : (dats m 0 c).arrAt 8 (cfgs 0).N = Cert.OutFwdRefIdeal.Read.val_main_v1 (F := Ideal) (A0 m c) (A1 m c) := by
  refine (dats m 0 c).arrAt_eq_of_covers 8 _ (by decide +kernel) fun t hf y => ?_
  blk_simp
  rw [after0_8]; frame_out
  obtain ⟨a, b, rfl⟩ : ∃ (a : Fin 512) (b : Fin 2048), y = ix2 a b := ⟨y 0, y 1, by funext q; fin_cases q <;> rfl⟩
  have ht : t.val < 16 := lt_of_lt_of_eq t.isLt N_0
  have e : ((cfg0.win 8).blk t).view.emb (ix2 a b) = (ix2 ⟨t.val * 512 + a.val, by omega⟩ b : S8192x2048.Idx) := by
    blk_ext [idx t]
  rw [e, out_at]
  exact (pay2_at _ _ a b).trans (rows m c t ht a b)

set_option maxHeartbeats 1000000 in
/-- The residual after the run. -/
theorem final9 (c : Dev nD) : (dats m 0 c).arrAt 9 (cfgs 0).N = Cert.OutFwdRefIdeal.Read.val_main_v16 (F := Ideal) (A0 m c) (A1 m c) (A2 m c) (A3 m c) (A4 m c) := by
  refine (dats m 0 c).arrAt_eq_of_covers 9 _ (by decide +kernel) fun t hf y => ?_
  blk_simp
  rw [after0_9]; frame_out
  obtain ⟨a, b, rfl⟩ : ∃ (a : Fin 512) (b : Fin 2048), y = ix2 a b := ⟨y 0, y 1, by funext q; fin_cases q <;> rfl⟩
  have ht : t.val < 16 := lt_of_lt_of_eq t.isLt N_0
  have e : ((cfg0.win 9).blk t).view.emb (ix2 a b) = (ix2 ⟨t.val * 512 + a.val, by omega⟩ b : S8192x2048.Idx) := by
    blk_ext [idx t]
  rw [e, y_at]
  exact resid m c t ht a b

set_option maxHeartbeats 1000000 in
/-- The next layer's rows after the run. -/
theorem final10 (c : Dev nD) : (dats m 0 c).arrAt 10 (cfgs 0).N = Cert.OutFwdRefIdeal.Read.val_main_v35 (F := Ideal) (A0 m c) (A1 m c) (A2 m c) (A3 m c) (A4 m c) (A5 m c) (A6 m c) (A7 m c) := by
  refine (dats m 0 c).arrAt_eq_of_covers 10 _ (by decide +kernel) fun t hf y => ?_
  blk_simp
  rw [after0_10]; frame_out
  obtain ⟨a, b, rfl⟩ : ∃ (a : Fin 512) (b : Fin 2048), y = ix2 a b := ⟨y 0, y 1, by funext q; fin_cases q <;> rfl⟩
  have ht : t.val < 16 := lt_of_lt_of_eq t.isLt N_0
  have e : ((cfg0.win 10).blk t).view.emb (ix2 a b) = (ix2 ⟨t.val * 512 + a.val, by omega⟩ b : S8192x2048.Idx) := by
    blk_ext [idx t]
  rw [e, h_at]
  exact (pay1_at _ _ _ _ _ _ _ _ a b).trans (nxt_congr (fun j => resid m c t ht a j) (fun j => blk5 m c t j) (fun j => blk7 m c t j) (fun j => blk6 m c t j) b)

end Cert.OutFwdIdeal.Hand

namespace Cert.Proof
open Idealize.ShloMosaic Idealize.ShloMosaic.TcCoe Idealize.SL.Sem
open Cert.OutFwdIdeal.Hand (A0 A1 A2 A3 A4 A5 A6 A7)

/-- The kernel's three results are the reference's, over the reals extended by the infinities. -/
theorem algebraic_OutFwd : Cert.algebraic_OutFwdIdeal_OutFwdRefIdeal := by
  intro m g m' g' _ hagree
  refine ⟨fun c => Cert.OutFwdRefIdeal.Read.val_main_v1 (F := Ideal) (A0 m c) (A1 m c),
    fun c => Cert.OutFwdRefIdeal.Read.val_main_v16 (F := Ideal) (A0 m c) (A1 m c) (A2 m c) (A3 m c) (A4 m c),
    fun c => Cert.OutFwdRefIdeal.Read.val_main_v35 (F := Ideal) (A0 m c) (A1 m c) (A2 m c) (A3 m c) (A4 m c) (A5 m c) (A6 m c) (A7 m c), ?_, ?_⟩
  · run_from Cert.OutFwdIdeal.Gen.run_main m g
    · exact Cert.OutFwdIdeal.Hand.final8 m c
    · exact Cert.OutFwdIdeal.Hand.final9 m c
    · exact Cert.OutFwdIdeal.Hand.final10 m c
  · refine (θ_run Cert.OutFwdRefIdeal.defs _ _).mono (fun r h c => ?_) (Cert.OutFwdRefIdeal.Hand.run m' g')
    obtain ⟨h1, h16, h35, hargs⟩ := h c
    obtain ⟨e0, e1, e2, e3, e4, e5, e6, e7⟩ := hagree c
    rw [e0, e1] at h1
    rw [e0, e1, e2, e3, e4] at h16
    rw [e0, e1, e2, e3, e4, e5, e6, e7] at h35
    exact ⟨h1, h16, h35, hargs⟩

end Cert.Proof

end
-- ==== Proof.AdamEntry.lean ====
module

public import Idealize.ShloMosaic.Lib.Pointwise
public import Idealize.ShloMosaic.Lib.Claim

/-! The optimiser's update of one entry, which every shape's kernel and every shape's reference apply at each entry. -/

@[expose] public section
noncomputable section
namespace AdamEntry
open Idealize.ShloMosaic

/-- A constant of the update. -/
abbrev cst (b : BitVec 32) : Ideal .f32 := FloatOps.ofBits .f32 b
/-- The new first moment of an entry. -/
def m1 (m g : Ideal .f32) : Ideal .f32 := FloatOps.addf (FloatOps.mulf (cst 0x3F666666#32) m) (FloatOps.mulf (cst 0x3DCCCCCD#32) g)
/-- The new second moment of an entry. -/
def m2 (v g : Ideal .f32) : Ideal .f32 := FloatOps.addf (FloatOps.mulf (cst 0x3F7FBE77#32) v) (FloatOps.mulf (cst 0x3A83126F#32) (FloatOps.mulf g g))
/-- The change of an entry of the weight. -/
def change (w m v g : Ideal .f32) : Ideal .f32 :=
  FloatOps.mulf (cst 0xBA83126F#32) (FloatOps.addf
    (FloatOps.divf (FloatOps.divf (m1 m g) (cst 0x3F26BD02#32))
      (FloatOps.addf (FloatOps.sqrt (FloatOps.divf (m2 v g) (cst 0x3C231ACC#32))) (cst 0x322BCC77#32)))
    (FloatOps.mulf (cst 0x3C23D70A#32) w))

end AdamEntry
end
-- ==== Proof.AdamVecValue.lean ====
module

public import proofs.«01_k».proof.Proof.AdamEntry
public import proofs.«01_k».proof.Proof.Gen.AdamVecIdeal.Frame
public import proofs.«01_k».proof.Proof.Gen.AdamVecRefIdeal.Run
public import proofs.«01_k».proof.Proof.Gen.AdamVecRefIdeal.Read
public import proofs.«01_k».proof.Defs
public import Idealize.ShloMosaic.Lib.Pipeline.ValueKit

/-! The optimiser's update of norm_pre and norm_post: one block, which is the whole array. -/

@[expose] public section
set_option maxRecDepth 16384
noncomputable section
namespace Cert.AdamVecIdeal.Hand
open Cert.AdamVecIdeal Cert.AdamVecIdeal.Gen Idealize.ShloMosaic Idealize.ShloMosaic.TcCoe Idealize.SL.Sem
open Idealize.ShloMosaic.Pipeline (Dat)
open Cert.AdamVecRefIdeal.Read AdamEntry

variable (m : (ℓ : Loc nD τ sig) → Buf (Elt Ideal) ℓ) (c : Dev nD) (t : Fin cfg0.N)

/-- The argument arrays on a device: weight, first and second moment, gradient. -/
abbrev W : FVec Ideal S4x2048 .f32 := m ((c : Thread nD τ).loc main_arg0)
abbrev M1 : FVec Ideal S4x2048 .f32 := m ((c : Thread nD τ).loc main_arg1)
abbrev M2 : FVec Ideal S4x2048 .f32 := m ((c : Thread nD τ).loc main_arg2)
abbrev G : FVec Ideal S4x2048 .f32 := m ((c : Thread nD τ).loc main_arg3)

/-- The kernel and the reference apply the same update at each entry. -/
theorem kernel_m1 (g : Vec Ideal S1x4x2048 .f32) (x : Vec Ideal S4x2048 .f32) (y : S4x2048.Idx) : k0_pay2 g x y = m1 (x y) (k0_pay1 g y) := rfl
theorem kernel_m2 (g : Vec Ideal S1x4x2048 .f32) (x : Vec Ideal S4x2048 .f32) (y : S4x2048.Idx) : k0_pay3 g x y = m2 (x y) (k0_pay1 g y) := rfl
theorem kernel_change (g : Vec Ideal S1x4x2048 .f32) (x v w : Vec Ideal S4x2048 .f32) (y : S4x2048.Idx) : k0_pay4 g x v w y = change (w y) (x y) (v y) (k0_pay1 g y) := rfl
theorem plain_m1 (x g : FVec Ideal S4x2048 .f32) (y : S4x2048.Idx) : val_main_v4 (F := Ideal) x g y = m1 (x y) (g y) := rfl
theorem plain_m2 (v g : FVec Ideal S4x2048 .f32) (y : S4x2048.Idx) : val_main_v10 (F := Ideal) v g y = m2 (v y) (g y) := rfl
theorem plain_change (w x v g : FVec Ideal S4x2048 .f32) (y : S4x2048.Idx) : val_main_v23 (F := Ideal) w x v g y = change (w y) (x y) (v y) (g y) := rfl

theorem idx : ∀ t : Fin cfg0.N, win0_0.index t = ![0, 0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, _)

/-- The gradient the kernel stages is the argument under a leading axis of one. -/
theorem V_g (a : Fin 4) (b : Fin 2048) : V m c main_v0 (ix3 (0 : Fin 1) a b : S1x4x2048.Idx) = G m c (ix2 a b) := by
  have h : V m c main_v0 = (broadcastInDim S1x4x2048 ![1, 2] bcast_S4x2048_S1x4x2048_1_2 (G m c)) := by entry_read; rfl
  rw [h]; pointwise []

/-- The staged blocks at an entry. -/
theorem blk_w (a : Fin 4) (b : Fin 2048) : (iblk m c 0 t : Vec Ideal S4x2048 .f32) (ix2 a b) = W m c (ix2 a b) := by
  blk_point [iblk, V_main_arg0, idx t]
theorem blk_m1 (a : Fin 4) (b : Fin 2048) : (iblk m c 1 t : Vec Ideal S4x2048 .f32) (ix2 a b) = M1 m c (ix2 a b) := by
  blk_point [iblk, V_main_arg1, idx t]
theorem blk_m2 (a : Fin 4) (b : Fin 2048) : (iblk m c 2 t : Vec Ideal S4x2048 .f32) (ix2 a b) = M2 m c (ix2 a b) := by
  blk_point [iblk, V_main_arg2, idx t]
theorem blk_g (a : Fin 4) (b : Fin 2048) : k0_pay1 (iblk m c 3 t : Vec Ideal S1x4x2048 .f32) (ix2 a b) = G m c (ix2 a b) := by
  have h : (iblk m c 3 t : Vec Ideal S1x4x2048 .f32) (ix3 (0 : Fin 1) a b) = G m c (ix2 a b) := by
    rw [← V_g]; blk_point [iblk, idx t]
  refine Eq.trans ?_ h
  pointwise [k0_pay1]

theorem entry (y : S4x2048.Idx) : ∃ (a : Fin 4) (b : Fin 2048), y = ix2 a b := ⟨y 0, y 1, by funext q; fin_cases q <;> rfl⟩

/-- The four results: the gradient, the change and the two moments. -/
theorem final4 : (dats m 0 c).arrAt 4 (cfgs 0).N = G m c := by
  refine (dats m 0 c).arrAt_eq_of_covers 4 _ (by decide +kernel) fun t hf y => ?_
  blk_simp
  rw [after0_4]; frame_out
  obtain ⟨a, b, rfl⟩ := entry y
  have e : ((cfg0.win 4).blk t).view.emb (ix2 a b) = (ix2 a b : S4x2048.Idx) := by blk_ext [idx t]
  rw [e]
  exact blk_g m c t a b
theorem final5 : (dats m 0 c).arrAt 5 (cfgs 0).N = val_main_v23 (F := Ideal) (W m c) (M1 m c) (M2 m c) (G m c) := by
  refine (dats m 0 c).arrAt_eq_of_covers 5 _ (by decide +kernel) fun t hf y => ?_
  blk_simp
  rw [after0_5]; frame_out
  obtain ⟨a, b, rfl⟩ := entry y
  have e : ((cfg0.win 5).blk t).view.emb (ix2 a b) = (ix2 a b : S4x2048.Idx) := by blk_ext [idx t]
  rw [e, plain_change, ← blk_w m c t, ← blk_m1 m c t, ← blk_m2 m c t, ← blk_g m c t]
  exact kernel_change _ _ _ _ _
theorem final6 : (dats m 0 c).arrAt 6 (cfgs 0).N = val_main_v4 (F := Ideal) (M1 m c) (G m c) := by
  refine (dats m 0 c).arrAt_eq_of_covers 6 _ (by decide +kernel) fun t hf y => ?_
  blk_simp
  rw [after0_6]; frame_out
  obtain ⟨a, b, rfl⟩ := entry y
  have e : ((cfg0.win 6).blk t).view.emb (ix2 a b) = (ix2 a b : S4x2048.Idx) := by blk_ext [idx t]
  rw [e, plain_m1, ← blk_m1 m c t, ← blk_g m c t]
  exact kernel_m1 _ _ _
theorem final7 : (dats m 0 c).arrAt 7 (cfgs 0).N = val_main_v10 (F := Ideal) (M2 m c) (G m c) := by
  refine (dats m 0 c).arrAt_eq_of_covers 7 _ (by decide +kernel) fun t hf y => ?_
  blk_simp
  rw [after0_7]; frame_out
  obtain ⟨a, b, rfl⟩ := entry y
  have e : ((cfg0.win 7).blk t).view.emb (ix2 a b) = (ix2 a b : S4x2048.Idx) := by blk_ext [idx t]
  rw [e, plain_m2, ← blk_m2 m c t, ← blk_g m c t]
  exact kernel_m2 _ _ _

end Cert.AdamVecIdeal.Hand

namespace Cert.Proof
open Idealize.ShloMosaic Idealize.ShloMosaic.TcCoe Idealize.SL.Sem

set_option maxHeartbeats 1000000 in
/-- The kernel's four results are the reference's, over the reals extended by the infinities. -/
theorem algebraic_AdamVec : Cert.algebraic_AdamVecIdeal_AdamVecRefIdeal := by
  pair_intro
  · run_from Cert.AdamVecIdeal.Gen.run_main m g
  · run_from Cert.AdamVecRefIdeal.Value.run m' g'
    · exact (Cert.AdamVecIdeal.Hand.final4 m c).symm
    · exact (Cert.AdamVecIdeal.Hand.final5 m c).symm
    · exact (Cert.AdamVecIdeal.Hand.final6 m c).symm
    · exact (Cert.AdamVecIdeal.Hand.final7 m c).symm

end Cert.Proof

end
-- ==== Proof.AdamGainValue.lean ====
module

public import proofs.«01_k».proof.Proof.AdamEntry
public import proofs.«01_k».proof.Proof.Gen.AdamGainIdeal.Frame
public import proofs.«01_k».proof.Proof.Gen.AdamGainRefIdeal.Run
public import proofs.«01_k».proof.Proof.Gen.AdamGainRefIdeal.Read
public import proofs.«01_k».proof.Defs
public import Idealize.ShloMosaic.Lib.Pipeline.ValueKit

/-! The optimiser's update of lower_bounds, hgrn_norm and pool_scale: one block, which is the whole array. -/

@[expose] public section
set_option maxRecDepth 16384
noncomputable section
namespace Cert.AdamGainIdeal.Hand
open Cert.AdamGainIdeal Cert.AdamGainIdeal.Gen Idealize.ShloMosaic Idealize.ShloMosaic.TcCoe Idealize.SL.Sem
open Idealize.ShloMosaic.Pipeline (Dat)
open Cert.AdamGainRefIdeal.Read AdamEntry

variable (m : (ℓ : Loc nD τ sig) → Buf (Elt Ideal) ℓ) (c : Dev nD) (t : Fin cfg0.N)

/-- The argument arrays on a device: weight, first and second moment, gradient. -/
abbrev W : FVec Ideal S4x1024 .f32 := m ((c : Thread nD τ).loc main_arg0)
abbrev M1 : FVec Ideal S4x1024 .f32 := m ((c : Thread nD τ).loc main_arg1)
abbrev M2 : FVec Ideal S4x1024 .f32 := m ((c : Thread nD τ).loc main_arg2)
abbrev G : FVec Ideal S4x1024 .f32 := m ((c : Thread nD τ).loc main_arg3)

/-- The kernel and the reference apply the same update at each entry. -/
theorem kernel_m1 (g : Vec Ideal S1x4x1024 .f32) (x : Vec Ideal S4x1024 .f32) (y : S4x1024.Idx) : k0_pay2 g x y = m1 (x y) (k0_pay1 g y) := rfl
theorem kernel_m2 (g : Vec Ideal S1x4x1024 .f32) (x : Vec Ideal S4x1024 .f32) (y : S4x1024.Idx) : k0_pay3 g x y = m2 (x y) (k0_pay1 g y) := rfl
theorem kernel_change (g : Vec Ideal S1x4x1024 .f32) (x v w : Vec Ideal S4x1024 .f32) (y : S4x1024.Idx) : k0_pay4 g x v w y = change (w y) (x y) (v y) (k0_pay1 g y) := rfl
theorem plain_m1 (x g : FVec Ideal S4x1024 .f32) (y : S4x1024.Idx) : val_main_v4 (F := Ideal) x g y = m1 (x y) (g y) := rfl
theorem plain_m2 (v g : FVec Ideal S4x1024 .f32) (y : S4x1024.Idx) : val_main_v10 (F := Ideal) v g y = m2 (v y) (g y) := rfl
theorem plain_change (w x v g : FVec Ideal S4x1024 .f32) (y : S4x1024.Idx) : val_main_v23 (F := Ideal) w x v g y = change (w y) (x y) (v y) (g y) := rfl

theorem idx : ∀ t : Fin cfg0.N, win0_0.index t = ![0, 0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, _)

/-- The gradient the kernel stages is the argument under a leading axis of one. -/
theorem V_g (a : Fin 4) (b : Fin 1024) : V m c main_v0 (ix3 (0 : Fin 1) a b : S1x4x1024.Idx) = G m c (ix2 a b) := by
  have h : V m c main_v0 = (broadcastInDim S1x4x1024 ![1, 2] bcast_S4x1024_S1x4x1024_1_2 (G m c)) := by entry_read; rfl
  rw [h]; pointwise []

/-- The staged blocks at an entry. -/
theorem blk_w (a : Fin 4) (b : Fin 1024) : (iblk m c 0 t : Vec Ideal S4x1024 .f32) (ix2 a b) = W m c (ix2 a b) := by
  blk_point [iblk, V_main_arg0, idx t]
theorem blk_m1 (a : Fin 4) (b : Fin 1024) : (iblk m c 1 t : Vec Ideal S4x1024 .f32) (ix2 a b) = M1 m c (ix2 a b) := by
  blk_point [iblk, V_main_arg1, idx t]
theorem blk_m2 (a : Fin 4) (b : Fin 1024) : (iblk m c 2 t : Vec Ideal S4x1024 .f32) (ix2 a b) = M2 m c (ix2 a b) := by
  blk_point [iblk, V_main_arg2, idx t]
theorem blk_g (a : Fin 4) (b : Fin 1024) : k0_pay1 (iblk m c 3 t : Vec Ideal S1x4x1024 .f32) (ix2 a b) = G m c (ix2 a b) := by
  have h : (iblk m c 3 t : Vec Ideal S1x4x1024 .f32) (ix3 (0 : Fin 1) a b) = G m c (ix2 a b) := by
    rw [← V_g]; blk_point [iblk, idx t]
  refine Eq.trans ?_ h
  pointwise [k0_pay1]

theorem entry (y : S4x1024.Idx) : ∃ (a : Fin 4) (b : Fin 1024), y = ix2 a b := ⟨y 0, y 1, by funext q; fin_cases q <;> rfl⟩

/-- The four results: the gradient, the change and the two moments. -/
theorem final4 : (dats m 0 c).arrAt 4 (cfgs 0).N = G m c := by
  refine (dats m 0 c).arrAt_eq_of_covers 4 _ (by decide +kernel) fun t hf y => ?_
  blk_simp
  rw [after0_4]; frame_out
  obtain ⟨a, b, rfl⟩ := entry y
  have e : ((cfg0.win 4).blk t).view.emb (ix2 a b) = (ix2 a b : S4x1024.Idx) := by blk_ext [idx t]
  rw [e]
  exact blk_g m c t a b
theorem final5 : (dats m 0 c).arrAt 5 (cfgs 0).N = val_main_v23 (F := Ideal) (W m c) (M1 m c) (M2 m c) (G m c) := by
  refine (dats m 0 c).arrAt_eq_of_covers 5 _ (by decide +kernel) fun t hf y => ?_
  blk_simp
  rw [after0_5]; frame_out
  obtain ⟨a, b, rfl⟩ := entry y
  have e : ((cfg0.win 5).blk t).view.emb (ix2 a b) = (ix2 a b : S4x1024.Idx) := by blk_ext [idx t]
  rw [e, plain_change, ← blk_w m c t, ← blk_m1 m c t, ← blk_m2 m c t, ← blk_g m c t]
  exact kernel_change _ _ _ _ _
theorem final6 : (dats m 0 c).arrAt 6 (cfgs 0).N = val_main_v4 (F := Ideal) (M1 m c) (G m c) := by
  refine (dats m 0 c).arrAt_eq_of_covers 6 _ (by decide +kernel) fun t hf y => ?_
  blk_simp
  rw [after0_6]; frame_out
  obtain ⟨a, b, rfl⟩ := entry y
  have e : ((cfg0.win 6).blk t).view.emb (ix2 a b) = (ix2 a b : S4x1024.Idx) := by blk_ext [idx t]
  rw [e, plain_m1, ← blk_m1 m c t, ← blk_g m c t]
  exact kernel_m1 _ _ _
theorem final7 : (dats m 0 c).arrAt 7 (cfgs 0).N = val_main_v10 (F := Ideal) (M2 m c) (G m c) := by
  refine (dats m 0 c).arrAt_eq_of_covers 7 _ (by decide +kernel) fun t hf y => ?_
  blk_simp
  rw [after0_7]; frame_out
  obtain ⟨a, b, rfl⟩ := entry y
  have e : ((cfg0.win 7).blk t).view.emb (ix2 a b) = (ix2 a b : S4x1024.Idx) := by blk_ext [idx t]
  rw [e, plain_m2, ← blk_m2 m c t, ← blk_g m c t]
  exact kernel_m2 _ _ _

end Cert.AdamGainIdeal.Hand

namespace Cert.Proof
open Idealize.ShloMosaic Idealize.ShloMosaic.TcCoe Idealize.SL.Sem

set_option maxHeartbeats 1000000 in
/-- The kernel's four results are the reference's, over the reals extended by the infinities. -/
theorem algebraic_AdamGain : Cert.algebraic_AdamGainIdeal_AdamGainRefIdeal := by
  pair_intro
  · run_from Cert.AdamGainIdeal.Gen.run_main m g
  · run_from Cert.AdamGainRefIdeal.Value.run m' g'
    · exact (Cert.AdamGainIdeal.Hand.final4 m c).symm
    · exact (Cert.AdamGainIdeal.Hand.final5 m c).symm
    · exact (Cert.AdamGainIdeal.Hand.final6 m c).symm
    · exact (Cert.AdamGainIdeal.Hand.final7 m c).symm

end Cert.Proof

end
-- ==== Proof.lean ====
/- The claims of the test file, one call at a time: the frames are the generated ones, and each value claim sets the
   kernel's result beside its reference's. -/
module

public import proofs.«01_k».proof.Defs
public import proofs.«01_k».proof.Proof.Gen.InDx
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwRefIdeal
public import proofs.«01_k».proof.Proof.Gen.ProjDwRefIdeal.Run
public import proofs.«01_k».proof.Proof.Gen.ProjDwRefIdeal.Read
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxRefIdeal
public import proofs.«01_k».proof.Proof.Gen.ProjDxRefIdeal.Run
public import proofs.«01_k».proof.Proof.Gen.ProjDxRefIdeal.Read
public import proofs.«01_k».proof.Proof.Gen.InGp
public import proofs.«01_k».proof.Proof.Gen.InGp.Skeleton
public import proofs.«01_k».proof.Proof.Gen.InGp.Launch
public import proofs.«01_k».proof.Proof.Gen.InGp.Points
public import proofs.«01_k».proof.Proof.Gen.InGp.Frame
public import proofs.«01_k».proof.Proof.Gen.InGpIdeal
public import proofs.«01_k».proof.Proof.Gen.InGpIdeal.Skeleton
public import proofs.«01_k».proof.Proof.Gen.InGpIdeal.Launch
public import proofs.«01_k».proof.Proof.Gen.InGpIdeal.Points
public import proofs.«01_k».proof.Proof.Gen.InGpIdeal.Frame
public import proofs.«01_k».proof.Proof.Gen.InGpRefIdeal
public import proofs.«01_k».proof.Proof.Gen.InGpRefIdeal.Run
public import proofs.«01_k».proof.Proof.Gen.InGpRefIdeal.Read
public import proofs.«01_k».proof.Proof.Gen.InHeads
public import proofs.«01_k».proof.Proof.Gen.InHeads.Skeleton
public import proofs.«01_k».proof.Proof.Gen.InHeads.Launch
public import proofs.«01_k».proof.Proof.Gen.InHeads.Points
public import proofs.«01_k».proof.Proof.Gen.InHeads.Frame
public import proofs.«01_k».proof.Proof.Gen.InHeadsIdeal
public import proofs.«01_k».proof.Proof.Gen.InHeadsIdeal.Skeleton
public import proofs.«01_k».proof.Proof.Gen.InHeadsIdeal.Launch
public import proofs.«01_k».proof.Proof.Gen.InHeadsIdeal.Points
public import proofs.«01_k».proof.Proof.Gen.InHeadsIdeal.Frame
public import proofs.«01_k».proof.Proof.Gen.InHeadsRefIdeal
public import proofs.«01_k».proof.Proof.Gen.InHeadsRefIdeal.Run
public import proofs.«01_k».proof.Proof.Gen.InHeadsRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.AdamVec
public import proofs.«01_k».proof.Proof.Gen.AdamVec.Skeleton
public import proofs.«01_k».proof.Proof.Gen.AdamVec.Launch
public import proofs.«01_k».proof.Proof.Gen.AdamVec.Points
public import proofs.«01_k».proof.Proof.Gen.AdamVec.Frame
public import proofs.«01_k».proof.Proof.Gen.AdamVecIdeal
public import proofs.«01_k».proof.Proof.Gen.AdamVecIdeal.Skeleton
public import proofs.«01_k».proof.Proof.Gen.AdamVecIdeal.Launch
public import proofs.«01_k».proof.Proof.Gen.AdamVecIdeal.Points
public import proofs.«01_k».proof.Proof.Gen.AdamVecIdeal.Frame
public import proofs.«01_k».proof.Proof.Gen.AdamVecRefIdeal
public import proofs.«01_k».proof.Proof.Gen.AdamVecRefIdeal.Run
public import proofs.«01_k».proof.Proof.Gen.AdamVecRefIdeal.Read
public import proofs.«01_k».proof.Proof.Gen.AdamGain
public import proofs.«01_k».proof.Proof.Gen.AdamGain.Skeleton
public import proofs.«01_k».proof.Proof.Gen.AdamGain.Launch
public import proofs.«01_k».proof.Proof.Gen.AdamGain.Points
public import proofs.«01_k».proof.Proof.Gen.AdamGain.Frame
public import proofs.«01_k».proof.Proof.Gen.AdamGainIdeal
public import proofs.«01_k».proof.Proof.Gen.AdamGainIdeal.Skeleton
public import proofs.«01_k».proof.Proof.Gen.AdamGainIdeal.Launch
public import proofs.«01_k».proof.Proof.Gen.AdamGainIdeal.Points
public import proofs.«01_k».proof.Proof.Gen.AdamGainIdeal.Frame
public import proofs.«01_k».proof.Proof.Gen.AdamGainRefIdeal
public import proofs.«01_k».proof.Proof.Gen.AdamGainRefIdeal.Run
public import proofs.«01_k».proof.Proof.Gen.AdamGainRefIdeal.Read
public import proofs.«01_k».proof.Proof.InDxClaim
public import proofs.«01_k».proof.Proof.GateBwdClaim
public import proofs.«01_k».proof.Proof.InDwValue
public import proofs.«01_k».proof.Proof.OutDwValue
public import proofs.«01_k».proof.Proof.ProjDwValue
public import proofs.«01_k».proof.Proof.ProjDxValue
public import proofs.«01_k».proof.Proof.InGpValue
public import proofs.«01_k».proof.Proof.InHeadsValue
public import proofs.«01_k».proof.Proof.GateFwdValue
public import proofs.«01_k».proof.Proof.OutFwdValue
public import proofs.«01_k».proof.Proof.AdamVecValue
public import proofs.«01_k».proof.Proof.AdamGainValue
public import Idealize.ShloMosaic.Adequacy
public import Idealize.ShloMosaic.Init

@[expose] public section

noncomputable section

namespace Cert.Proof

open Idealize.ShloMosaic Idealize.SL.Sem

theorem claim : Cert.Claim := ⟨Cert.InDx.Gen.facts,
  Cert.InDxIdeal.Gen.facts,
  Cert.InDxRefIdeal.Gen.facts,
  Cert.GateBwd.Gen.facts,
  Cert.GateBwdIdeal.Gen.facts,
  Cert.GateBwdRefIdeal.Gen.facts,
  Cert.InDw.Gen.facts,
  Cert.InDwIdeal.Gen.facts,
  Cert.InDwRefIdeal.Gen.facts,
  Cert.OutDw.Gen.facts,
  Cert.OutDwIdeal.Gen.facts,
  Cert.OutDwRefIdeal.Gen.facts,
  Cert.ProjDw.Gen.facts,
  Cert.ProjDwIdeal.Gen.facts,
  Cert.ProjDwRefIdeal.Gen.facts,
  Cert.ProjDx.Gen.facts,
  Cert.ProjDxIdeal.Gen.facts,
  Cert.ProjDxRefIdeal.Gen.facts,
  Cert.InGp.Gen.facts,
  Cert.InGpIdeal.Gen.facts,
  Cert.InGpRefIdeal.Gen.facts,
  Cert.InHeads.Gen.facts,
  Cert.InHeadsIdeal.Gen.facts,
  Cert.InHeadsRefIdeal.Gen.facts,
  Cert.GateFwd.Gen.facts,
  Cert.GateFwdIdeal.Gen.facts,
  Cert.GateFwdRefIdeal.Gen.facts,
  Cert.OutFwd.Gen.facts,
  Cert.OutFwdIdeal.Gen.facts,
  Cert.OutFwdRefIdeal.Gen.facts,
  Cert.AdamVec.Gen.facts,
  Cert.AdamVecIdeal.Gen.facts,
  Cert.AdamVecRefIdeal.Gen.facts,
  Cert.AdamGain.Gen.facts,
  Cert.AdamGainIdeal.Gen.facts,
  Cert.AdamGainRefIdeal.Gen.facts,
  frame_InDx,
  fun m ρ _ => Cert.InDxIdeal.Body.frame m ρ,
  (by
      intro m g _
      run_from Cert.InDxRefIdeal.Value.run m g
      all_goals first | exact sem_eq_zero_of_no_sems (by decide) _ | (intro _; simp)),
  fun m ρ _ => Cert.GateBwd.Gen.frame m ρ,
  fun m ρ _ => Cert.GateBwdIdeal.Gen.frame m ρ,
  (by
      intro m g _
      run_from Cert.GateBwdRefIdeal.Value.run m g
      all_goals first | exact sem_eq_zero_of_no_sems (by decide) _ | (intro _; simp)),
  fun m ρ _ => Cert.InDw.Gen.frame m ρ,
  fun m ρ _ => Cert.InDwIdeal.Gen.frame m ρ,
  (by
      intro m g _
      run_from Cert.InDwRefIdeal.Value.run m g
      all_goals first | exact sem_eq_zero_of_no_sems (by decide) _ | (intro _; simp)),
  fun m ρ _ => Cert.OutDw.Gen.frame m ρ,
  fun m ρ _ => Cert.OutDwIdeal.Gen.frame m ρ,
  (by
      intro m g _
      run_from Cert.OutDwRefIdeal.Value.run m g
      all_goals first | exact sem_eq_zero_of_no_sems (by decide) _ | (intro _; simp)),
  fun m ρ _ => Cert.ProjDw.Gen.frame m ρ,
  fun m ρ _ => Cert.ProjDwIdeal.Gen.frame m ρ,
  (by
      intro m g _
      run_from Cert.ProjDwRefIdeal.Value.run m g
      all_goals first | exact sem_eq_zero_of_no_sems (by decide) _ | (intro _; simp)),
  fun m ρ _ => Cert.ProjDx.Gen.frame m ρ,
  fun m ρ _ => Cert.ProjDxIdeal.Gen.frame m ρ,
  (by
      intro m g _
      run_from Cert.ProjDxRefIdeal.Value.run m g
      all_goals first | exact sem_eq_zero_of_no_sems (by decide) _ | (intro _; simp)),
  fun m ρ _ => Cert.InGp.Gen.frame m ρ,
  fun m ρ _ => Cert.InGpIdeal.Gen.frame m ρ,
  (by
      intro m g _
      run_from Cert.InGpRefIdeal.Value.run m g
      all_goals first | exact sem_eq_zero_of_no_sems (by decide) _ | (intro _; simp)),
  fun m ρ _ => Cert.InHeads.Gen.frame m ρ,
  fun m ρ _ => Cert.InHeadsIdeal.Gen.frame m ρ,
  (by
      intro m g _
      run_from Cert.InHeadsRefIdeal.Value.run m g
      all_goals first | exact sem_eq_zero_of_no_sems (by decide) _ | (intro _; simp)),
  fun m ρ _ => Cert.GateFwd.Gen.frame m ρ,
  fun m ρ _ => Cert.GateFwdIdeal.Gen.frame m ρ,
  (by
      intro m g _
      run_from Cert.GateFwdRefIdeal.Value.run m g
      all_goals first | exact sem_eq_zero_of_no_sems (by decide) _ | (intro _; simp)),
  fun m ρ _ => Cert.OutFwd.Gen.frame m ρ,
  fun m ρ _ => Cert.OutFwdIdeal.Gen.frame m ρ,
  (by
      intro m g _
      run_from Cert.OutFwdRefIdeal.Value.run m g
      all_goals first | exact sem_eq_zero_of_no_sems (by decide) _ | (intro _; simp)),
  fun m ρ _ => Cert.AdamVec.Gen.frame m ρ,
  fun m ρ _ => Cert.AdamVecIdeal.Gen.frame m ρ,
  (by
      intro m g _
      run_from Cert.AdamVecRefIdeal.Value.run m g
      all_goals first | exact sem_eq_zero_of_no_sems (by decide) _ | (intro _; simp)),
  fun m ρ _ => Cert.AdamGain.Gen.frame m ρ,
  fun m ρ _ => Cert.AdamGainIdeal.Gen.frame m ρ,
  (by
      intro m g _
      run_from Cert.AdamGainRefIdeal.Value.run m g
      all_goals first | exact sem_eq_zero_of_no_sems (by decide) _ | (intro _; simp)),
  trivial,
  algebraic_InDx,
  trivial,
  algebraic_GateBwd,
  trivial,
  algebraic_InDw,
  trivial,
  algebraic_OutDw,
  trivial,
  algebraic_ProjDw,
  trivial,
  algebraic_ProjDx,
  trivial,
  algebraic_InGp,
  trivial,
  algebraic_InHeads,
  trivial,
  algebraic_GateFwd,
  trivial,
  algebraic_OutFwd,
  trivial,
  algebraic_AdamVec,
  trivial,
  algebraic_AdamGain⟩

end Cert.Proof

end
